-- ==== Defs.lean ====
def Pre_Kernel [hPre_rows_fit : Cert.Pre_rows_fit.Facts] (m : (ℓ : Loc Cert.Kernel.nD Cert.Kernel.τ Cert.Kernel.sig) → Buf (Elt Bits) ℓ) : Prop :=
  ∀ c : Dev Cert.Kernel.nD,
    (Cert.Pre_rows_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_rows_fit : Cert.Pre_rows_fit.Facts] (m : (ℓ : Loc Cert.KernelIdeal.nD Cert.KernelIdeal.τ Cert.KernelIdeal.sig) → Buf (Elt Ideal) ℓ) : Prop :=
  ∀ c : Dev Cert.KernelIdeal.nD,
    (Cert.Pre_rows_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_rows_full [hPre_rows_full : Cert.Pre_rows_full.Facts] (m : (ℓ : Loc Cert.KernelIdeal.nD Cert.KernelIdeal.τ Cert.KernelIdeal.sig) → Buf (Elt Ideal) ℓ) : Prop :=
  ∀ c : Dev Cert.KernelIdeal.nD,
    (Cert.Pre_rows_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_full [hPre_rows_full : Cert.Pre_rows_full.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_rows_fit : Cert.Pre_rows_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_rows_fit : Cert.Pre_rows_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_full [hKernelIdeal : Cert.KernelIdeal.Facts] [hPre_rows_full : Cert.Pre_rows_full.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_full m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_full [hReferenceIdeal : Cert.ReferenceIdeal.Facts] [hPre_rows_full : Cert.Pre_rows_full.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_full m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_full [hKernelIdeal : Cert.KernelIdeal.Facts] [hReferenceIdeal : Cert.ReferenceIdeal.Facts] [hPre_rows_full : Cert.Pre_rows_full.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_full m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_fit : Cert.Pre_rows_fit.Facts) (hPre_rows_full : Cert.Pre_rows_full.Facts),
    quiescent_Kernel (hKernel := hKernel) (hPre_rows_fit := hPre_rows_fit)
    ∧ quiescent_KernelIdeal (hKernelIdeal := hKernelIdeal) (hPre_rows_fit := hPre_rows_fit)
    ∧ quiescent_KernelIdeal_pre_rows_full (hKernelIdeal := hKernelIdeal) (hPre_rows_full := hPre_rows_full)
    ∧ quiescent_ReferenceIdeal (hReferenceIdeal := hReferenceIdeal)
    ∧ quiescent_ReferenceIdeal_pre_rows_full (hReferenceIdeal := hReferenceIdeal) (hPre_rows_full := hPre_rows_full)
    ∧ preserves_Kernel_KernelIdeal
    ∧ algebraic_KernelIdeal_ReferenceIdeal_pre_rows_full (hKernelIdeal := hKernelIdeal) (hReferenceIdeal := hReferenceIdeal) (hPre_rows_full := hPre_rows_full)
-- ==== Pre_rows_fit.lean ====
abbrev S16384x1024 : Shape := ⟨2, ![16384, 1024]⟩
abbrev S16 : Shape := ⟨1, ![16]⟩
abbrev S16x1024x2560 : Shape := ⟨3, ![16, 1024, 2560]⟩
abbrev S16x5120 : Shape := ⟨2, ![16, 5120]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16384x1024 .bf16) (main_arg1 : IVec S16 32) (main_arg2 : IVec S16x1024x2560 8) (main_arg3 : FVec F S16x5120 .f32) : IVec S16 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 16384#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 32 := constantI S_ 32 0#32
  let main_v5 : IVec S_ 32 := (fun x v => Host.reduce IntOp.addi x v reducesTo_S16_S_d0 h_S_) main_arg1 main_c_1
  let main_c_2 : IVec S_ 32 := constantI S_ 32 16384#32
  let main_v6 : IVec S_ 1 := cmpi .sle main_v5 main_c_2
  let main_v7 : IVec S16 1 := broadcastInDim S16 ![] bcast_S_S16 main_v6
  let main_v8 : IVec S16 1 := andi main_v4 main_v7
  main_v8
-- ==== Pre_rows_full.lean ====
abbrev S16384x1024 : Shape := ⟨2, ![16384, 1024]⟩
abbrev S16 : Shape := ⟨1, ![16]⟩
abbrev S16x1024x2560 : Shape := ⟨3, ![16, 1024, 2560]⟩
abbrev S16x5120 : Shape := ⟨2, ![16, 5120]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16 : S_.BroadcastsInDim S16 (![] : Fin 0 → Fin S16.rank)
  reducesTo_S16_S_d0 : S16.ReducesTo [0] S_

variable [Facts]

def fn_part1 {F : FTy → Type} [FloatOps F] (main_v14 : IVec S16 1) (main_v16 : IVec S_ 1) : IVec S16 1 :=
  let main_v17 : IVec S16 1 := broadcastInDim S16 ![] bcast_S_S16 main_v16
  let main_v18 : IVec S16 1 := andi main_v14 main_v17
  main_v18

def fn {F : FTy → Type} [FloatOps F] (main_arg0 : FVec F S16384x1024 .bf16) (main_arg1 : IVec S16 32) (main_arg2 : IVec S16x1024x2560 8) (main_arg3 : FVec F S16x5120 .f32) : IVec S16 1 :=
  let main_v0 : FVec F S16384x1024 .f32 := (extf .f32 · bitsLt_bf16_f32) main_arg0
  let main_v1 : FVec F S16384x1024 .f32 := Host.absf main_v0
  let main_cst : FVec F S_ .f32 := constant S_ .f32 0x7F7F0000#32
  let main_v2 : FVec F S16384x1024 .f32 := broadcastInDim S16384x1024 ![] bcast_S_S16384x1024 main_cst
  let main_v3 : IVec S16384x1024 1 := cmpf .ole main_v1 main_v2
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .oeq main_v1 main_v4
  let main_v6 : IVec S16384x1024 1 := ori main_v3 main_v5
  let main_c : IVec S_ 1 := constantI S_ 1 1#1
  let main_v7 : IVec S_ 1 := (fun x v => Host.reduce IntOp.andi x v reducesTo_S16384x1024_S_d0_1 h_S_) main_v6 main_c
  let main_c_1 : IVec S_ 32 := constantI S_ 32 0#32
  let main_v8 : IVec S16 32 := broadcastInDim S16 ![] bcast_S_S16 main_c_1
  let main_v9 : IVec S16 1 := cmpi .sge main_arg1 main_v8
  let main_v10 : IVec S16 1 := broadcastInDim S16 ![] bcast_S_S16 main_v7
  let main_v11 : IVec S16 1 := andi main_v10 main_v9
  let main_c_2 : IVec S_ 32 := constantI S_ 32 16384#32
  let main_v12 : IVec S16 32 := broadcastInDim S16 ![] bcast_S_S16 main_c_2
  let main_v13 : IVec S16 1 := cmpi .sle main_arg1 main_v12
  let main_v14 : IVec S16 1 := andi main_v11 main_v13
  let main_c_3 : IVec S_ 32 := constantI S_ 32 0#32
  let main_v15 : IVec S_ 32 := (fun x v => Host.reduce IntOp.addi x v reducesTo_S16_S_d0 h_S_) main_arg1 main_c_3
  let main_c_4 : IVec S_ 32 := constantI S_ 32 16384#32
  let main_v16 : IVec S_ 1 := cmpi .eq main_v15 main_c_4
  fn_part1 (F := F) main_v14 main_v16
-- ==== Kernel.lean ====
abbrev S16384x1024 : Shape := ⟨2, ![16384, 1024]⟩
abbrev S16 : Shape := ⟨1, ![16]⟩
abbrev S16x1024x2560 : Shape := ⟨3, ![16, 1024, 2560]⟩
abbrev S16x5120 : Shape := ⟨2, ![16, 5120]⟩
abbrev S_ : Shape := ⟨0, ![]⟩
abbrev S48 : Shape := ⟨1, ![48]⟩
abbrev S1x48 : Shape := ⟨2, ![1, 48]⟩
abbrev S16x1 : Shape := ⟨2, ![16, 1]⟩
abbrev S16x48 : Shape := ⟨2, ![16, 48]⟩
abbrev S1 : Shape := ⟨1, ![1]⟩
abbrev S48x1 : Shape := ⟨2, ![48, 1]⟩
abbrev S47 : Shape := ⟨1, ![47]⟩
abbrev S16x1x5120 : Shape := ⟨3, ![16, 1, 5120]⟩
abbrev S16384x5120 : Shape := ⟨2, ![16384, 5120]⟩
abbrev S512x1024 : Shape := ⟨2, ![512, 1024]⟩
abbrev S1x1024x2560 : Shape := ⟨3, ![1, 1024, 2560]⟩
abbrev S1x1x5120 : Shape := ⟨3, ![1, 1, 5120]⟩
abbrev S512x5120 : Shape := ⟨2, ![512, 5120]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x1024x512 : Shape := ⟨3, ![1, 1024, 512]⟩
abbrev S1024x512 : Shape := ⟨2, ![1024, 512]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 161
  | .vmem => 10
  | .smem => 5
  | _ => 0

abbrev hbmTy0_0 (i : Nat) : BufTy := match i % 128 with
  | 0 => ⟨S16384x1024, .bf16⟩
  | 1 => ⟨S16, .i32⟩
  | 2 => ⟨S16x1024x2560, .i8⟩
  | 3 => ⟨S16x5120, .f32⟩
  | 4 => ⟨S_, .i32⟩
  | 5 => ⟨S_, .i32⟩
  | 6 => ⟨S16, .i32⟩
  | 7 => ⟨S16, .i32⟩
  | 8 => ⟨S_, .i32⟩
  | 9 => ⟨S_, .i32⟩
  | 10 => ⟨S16, .i32⟩
  | 11 => ⟨S16, .i32⟩
  | 12 => ⟨S16, .i32⟩
  | 13 => ⟨S_, .i32⟩
  | 14 => ⟨S16, .i32⟩
  | 15 => ⟨S16, .i1⟩
  | 16 => ⟨S16, .i32⟩
  | 17 => ⟨S16, .i32⟩
  | 18 => ⟨S_, .i32⟩
  | 19 => ⟨S16, .i32⟩
  | 20 => ⟨S16, .i1⟩
  | 21 => ⟨S16, .i1⟩
  | 22 => ⟨S_, .i32⟩
  | 23 => ⟨S16, .i32⟩
  | 24 => ⟨S16, .i32⟩
  | 25 => ⟨S16, .i32⟩
  | 26 => ⟨S_, .i32⟩
  | 27 => ⟨S16, .i32⟩
  | 28 => ⟨S16, .i1⟩
  | 29 => ⟨S_, .i32⟩
  | 30 => ⟨S16, .i32⟩
  | 31 => ⟨S16, .i32⟩
  | 32 => ⟨S_, .i32⟩
  | 33 => ⟨S_, .i32⟩
  | 34 => ⟨S16, .i32⟩
  | 35 => ⟨S16, .i32⟩
  | 36 => ⟨S16, .i32⟩
  | 37 => ⟨S_, .i32⟩
  | 38 => ⟨S16, .i32⟩
  | 39 => ⟨S16, .i1⟩
  | 40 => ⟨S16, .i32⟩
  | 41 => ⟨S16, .i32⟩
  | 42 => ⟨S_, .i32⟩
  | 43 => ⟨S16, .i32⟩
  | 44 => ⟨S16, .i1⟩
  | 45 => ⟨S16, .i1⟩
  | 46 => ⟨S_, .i32⟩
  | 47 => ⟨S16, .i32⟩
  | 48 => ⟨S16, .i32⟩
  | 49 => ⟨S16, .i32⟩
  | 50 => ⟨S16, .i32⟩
  | 51 => ⟨S_, .i32⟩
  | 52 => ⟨S16, .i32⟩
  | 53 => ⟨S16, .i32⟩
  | 54 => ⟨S_, .i32⟩
  | 55 => ⟨S_, .i32⟩
  | 56 => ⟨S16, .i32⟩
  | 57 => ⟨S16, .i32⟩
  | 58 => ⟨S_, .i32⟩
  | 59 => ⟨S_, .i32⟩
  | 60 => ⟨S16, .i32⟩
  | 61 => ⟨S48, .i32⟩
  | 62 => ⟨S1x48, .i32⟩
  | 63 => ⟨S16x1, .i32⟩
  | 64 => ⟨S16x48, .i32⟩
  | 65 => ⟨S16x48, .i32⟩
  | 66 => ⟨S16x48, .i1⟩
  | 67 => ⟨S16x48, .i32⟩
  | 68 => ⟨S_, .i32⟩
  | 69 => ⟨S48, .i32⟩
  | 70 => ⟨S_, .i32⟩
  | 71 => ⟨S48, .i32⟩
  | 72 => ⟨S48, .i32⟩
  | 73 => ⟨S_, .i32⟩
  | 74 => ⟨S16, .i32⟩
  | 75 => ⟨S16, .i1⟩
  | 76 => ⟨S16, .i32⟩
  | 77 => ⟨S_, .i32⟩
  | 78 => ⟨S_, .i32⟩
  | 79 => ⟨S16, .i32⟩
  | 80 => ⟨S16, .i32⟩
  | 81 => ⟨S_, .i32⟩
  | 82 => ⟨S_, .i32⟩
  | 83 => ⟨S1, .i32⟩
  | 84 => ⟨S_, .i32⟩
  | 85 => ⟨S48, .i32⟩
  | 86 => ⟨S48, .i1⟩
  | 87 => ⟨S48, .i32⟩
  | 88 => ⟨S_, .i32⟩
  | 89 => ⟨S48, .i32⟩
  | 90 => ⟨S48, .i1⟩
  | 91 => ⟨S_, .i32⟩
  | 92 => ⟨S48, .i32⟩
  | 93 => ⟨S48, .i32⟩
  | 94 => ⟨S48, .i32⟩
  | 95 => ⟨S48x1, .i32⟩
  | 96 => ⟨S48, .i32⟩
  | 97 => ⟨S48, .i32⟩
  | 98 => ⟨S16, .i32⟩
  | 99 => ⟨S_, .i32⟩
  | 100 => ⟨S48, .i32⟩
  | 101 => ⟨S48, .i1⟩
  | 102 => ⟨S_, .i32⟩
  | 103 => ⟨S48, .i32⟩
  | 104 => ⟨S48, .i32⟩
  | 105 => ⟨S48, .i32⟩
  | 106 => ⟨S48x1, .i32⟩
  | 107 => ⟨S48, .i32⟩
  | 108 => ⟨S48, .i32⟩
  | 109 => ⟨S_, .i32⟩
  | 110 => ⟨S_, .i32⟩
  | 111 => ⟨S48, .i32⟩
  | 112 => ⟨S_, .i32⟩
  | 113 => ⟨S48, .i32⟩
  | 114 => ⟨S48, .i1⟩
  | 115 => ⟨S_, .i32⟩
  | 116 => ⟨S48, .i32⟩
  | 117 => ⟨S48, .i32⟩
  | 118 => ⟨S48, .i32⟩
  | 119 => ⟨S48x1, .i32⟩
  | 120 => ⟨S48, .i32⟩
  | 121 => ⟨S_, .i32⟩
  | 122 => ⟨S48, .i32⟩
  | 123 => ⟨S48, .i32⟩
  | 124 => ⟨S48, .i32⟩
  | 125 => ⟨S_, .i32⟩
  | 126 => ⟨S_, .i32⟩
  | 127 => ⟨S_, .i32⟩
  | _ => ⟨S16384x1024, .bf16⟩

abbrev hbmTy0_1 (i : Nat) : BufTy := match i % 128 with
  | 0 => ⟨S48, .i32⟩
  | 1 => ⟨S48, .i32⟩
  | 2 => ⟨S_, .i32⟩
  | 3 => ⟨S48, .i32⟩
  | 4 => ⟨S_, .i32⟩
  | 5 => ⟨S48, .i32⟩
  | 6 => ⟨S48, .i1⟩
  | 7 => ⟨S_, .i32⟩
  | 8 => ⟨S48, .i32⟩
  | 9 => ⟨S48, .i32⟩
  | 10 => ⟨S48, .i32⟩
  | 11 => ⟨S48x1, .i32⟩
  | 12 => ⟨S48, .i32⟩
  | 13 => ⟨S_, .i32⟩
  | 14 => ⟨S48, .i32⟩
  | 15 => ⟨S48, .i32⟩
  | 16 => ⟨S48, .i32⟩
  | 17 => ⟨S_, .i32⟩
  | 18 => ⟨S_, .i32⟩
  | 19 => ⟨S_, .i32⟩
  | 20 => ⟨S48, .i32⟩
  | 21 => ⟨S48, .i32⟩
  | 22 => ⟨S_, .i32⟩
  | 23 => ⟨S48, .i32⟩
  | 24 => ⟨S48, .i32⟩
  | 25 => ⟨S_, .i32⟩
  | 26 => ⟨S1, .i32⟩
  | 27 => ⟨S47, .i32⟩
  | 28 => ⟨S47, .i32⟩
  | 29 => ⟨S47, .i1⟩
  | 30 => ⟨S47, .i32⟩
  | 31 => ⟨S16x1x5120, .f32⟩
  | 32 => ⟨S16384x5120, .bf16⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024x2560, .i8⟩
  | .local _ .vmem, ⟨3, _⟩ => ⟨S1x1024x2560, .i8⟩
  | .local _ .vmem, ⟨4, _⟩ => ⟨S1x1x5120, .f32⟩
  | .local _ .vmem, ⟨5, _⟩ => ⟨S1x1x5120, .f32⟩
  | .local _ .vmem, ⟨6, _⟩ => ⟨S512x5120, .bf16⟩
  | .local _ .vmem, ⟨7, _⟩ => ⟨S512x5120, .bf16⟩
  | .local _ .vmem, ⟨8, _⟩ => ⟨S512x1024, .bf16⟩
  | .local _ .vmem, ⟨9, _⟩ => ⟨S512x128, .f32⟩
  | .local _ .smem, ⟨0, _⟩ => ⟨S48, .i32⟩
  | .local _ .smem, ⟨1, _⟩ => ⟨S48, .i32⟩
  | .local _ .smem, ⟨2, _⟩ => ⟨S48, .i32⟩
  | .local _ .smem, ⟨3, _⟩ => ⟨S48, .i32⟩
  | .local _ .smem, ⟨4, _⟩ => ⟨S48, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v7 : Ref sig .tc := ⟨.hbm, 49, rfl⟩
abbrev main_v8 : Ref sig .tc := ⟨.hbm, 50, rfl⟩
abbrev main_c_3 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_call5_call0_v0 : Ref sig .tc := ⟨.hbm, 62, rfl⟩
abbrev main_call5_call0_v1 : Ref sig .tc := ⟨.hbm, 63, rfl⟩
abbrev main_call5_call0_v2 : Ref sig .tc := ⟨.hbm, 64, rfl⟩
abbrev main_call5_call0_v3 : Ref sig .tc := ⟨.hbm, 65, rfl⟩
abbrev main_call5_call0_v4 : Ref sig .tc := ⟨.hbm, 66, rfl⟩
abbrev main_call5_call0_v5 : Ref sig .tc := ⟨.hbm, 67, rfl⟩
abbrev main_call5_call0_c : Ref sig .tc := ⟨.hbm, 68, rfl⟩
abbrev main_v14 : Ref sig .tc := ⟨.hbm, 69, rfl⟩
abbrev main_c_5 : Ref sig .tc := ⟨.hbm, 70, rfl⟩
abbrev main_v15 : Ref sig .tc := ⟨.hbm, 71, rfl⟩
abbrev main_v16 : Ref sig .tc := ⟨.hbm, 72, rfl⟩
abbrev main_c_6 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_c_7 : Ref sig .tc := ⟨.hbm, 77, rfl⟩
abbrev main_call6_v0 : Ref sig .tc := ⟨.hbm, 78, rfl⟩
abbrev main_call6_v1 : Ref sig .tc := ⟨.hbm, 79, rfl⟩
abbrev main_v20 : Ref sig .tc := ⟨.hbm, 80, rfl⟩
abbrev main_c_8 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_call7_v0 : Ref sig .tc := ⟨.hbm, 87, rfl⟩
abbrev main_c_9 : Ref sig .tc := ⟨.hbm, 88, rfl⟩
abbrev main_v27 : Ref sig .tc := ⟨.hbm, 89, rfl⟩
abbrev main_v28 : Ref sig .tc := ⟨.hbm, 90, rfl⟩
abbrev main_c_10 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_c_11 : Ref sig .tc := ⟨.hbm, 99, rfl⟩
abbrev main_v36 : Ref sig .tc := ⟨.hbm, 100, rfl⟩
abbrev main_v37 : Ref sig .tc := ⟨.hbm, 101, rfl⟩
abbrev main_c_12 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_c_13 : Ref sig .tc := ⟨.hbm, 109, rfl⟩
abbrev main_call8_v0 : Ref sig .tc := ⟨.hbm, 110, rfl⟩
abbrev main_call8_v1 : Ref sig .tc := ⟨.hbm, 111, rfl⟩
abbrev main_c_14 : Ref sig .tc := ⟨.hbm, 112, rfl⟩
abbrev main_v45 : Ref sig .tc := ⟨.hbm, 113, rfl⟩
abbrev main_v46 : Ref sig .tc := ⟨.hbm, 114, rfl⟩
abbrev main_c_15 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_c_16 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_c_17 : Ref sig .tc := ⟨.hbm, 125, rfl⟩
abbrev main_c_18 : Ref sig .tc := ⟨.hbm, 126, rfl⟩
abbrev main_call9_v0 : Ref sig .tc := ⟨.hbm, 127, rfl⟩
abbrev main_call9_v1 : Ref sig .tc := ⟨.hbm, 128, rfl⟩
abbrev main_call9_v2 : Ref sig .tc := ⟨.hbm, 129, rfl⟩
abbrev main_call9_v3 : Ref sig .tc := ⟨.hbm, 130, rfl⟩
abbrev main_call9_v4 : Ref sig .tc := ⟨.hbm, 131, rfl⟩
abbrev main_c_19 : Ref sig .tc := ⟨.hbm, 132, rfl⟩
abbrev main_v56 : Ref sig .tc := ⟨.hbm, 133, rfl⟩
abbrev main_v57 : Ref sig .tc := ⟨.hbm, 134, rfl⟩
abbrev main_c_20 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_c_21 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_c_22 : Ref sig .tc := ⟨.hbm, 145, rfl⟩
abbrev main_c_23 : Ref sig .tc := ⟨.hbm, 146, rfl⟩
abbrev main_call10_v0 : Ref sig .tc := ⟨.hbm, 147, rfl⟩
abbrev main_call10_v1 : Ref sig .tc := ⟨.hbm, 148, rfl⟩
abbrev main_call10_v2 : Ref sig .tc := ⟨.hbm, 149, rfl⟩
abbrev main_call10_v3 : Ref sig .tc := ⟨.hbm, 150, rfl⟩
abbrev main_call10_v4 : Ref sig .tc := ⟨.hbm, 151, rfl⟩
abbrev main_v66 : Ref sig .tc := ⟨.hbm, 152, rfl⟩
abbrev main_c_24 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v74 : Ref sig .tc := ⟨.hbm, 159, rfl⟩
abbrev main_v75 : Ref sig .tc := ⟨.hbm, 160, rfl⟩
abbrev main_v26 : Ref sig .tc := ⟨.smem, 0, rfl⟩
abbrev main_v44 : Ref sig .tc := ⟨.smem, 1, rfl⟩
abbrev main_v55 : Ref sig .tc := ⟨.smem, 2, rfl⟩
abbrev main_v67 : Ref sig .tc := ⟨.smem, 3, rfl⟩
abbrev main_v73 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![48], ![false]⟩

abbrev pre0 : Pipeline.Prefetch sig := ⟨5, ![main_v26.idx, main_v44.idx, main_v55.idx, main_v67.idx, main_v73.idx], fun | 0 => main_v26.names | 1 => main_v44.names | 2 => main_v55.names | 3 => main_v67.names | 4 => main_v73.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond2 (v6 : BitVec 32) (v8 : BitVec 32) : BitVec 1 :=
  let v9 : BitVec 1 := Scalar.cmpi .sgt v8 v6
  let v10 : BitVec 32 := Scalar.extui v9
  let c0_i32_0 : BitVec 32 := 0#32
  let v11 : BitVec 1 := Scalar.cmpi .ne v10 c0_i32_0
  v11

def cc0_transform_0 (k0_off1_inb : ∀ i : grid0.Coords, ∀ a, (k0_off1 i) a + S1.size a ≤ S48.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S48) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S48.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S48) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x1024 : Shape := ⟨2, ![16384, 1024]⟩
abbrev S16 : Shape := ⟨1, ![16]⟩
abbrev S16x1024x2560 : Shape := ⟨3, ![16, 1024, 2560]⟩
abbrev S16x5120 : Shape := ⟨2, ![16, 5120]⟩
abbrev S_ : Shape := ⟨0, ![]⟩
abbrev S16x1024x5120 : Shape := ⟨3, ![16, 1024, 5120]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x5120 : Shape := ⟨2, ![16384, 5120]⟩
abbrev S1x1024x5120 : Shape := ⟨3, ![1, 1024, 5120]⟩
abbrev S1024x5120 : Shape := ⟨2, ![1024, 5120]⟩

abbrev nBuf : Space → Nat
  | .hbm => 38
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16, .i32⟩
  | .hbm, ⟨2, _⟩ => ⟨S16x1024x2560, .i8⟩
  | .hbm, ⟨3, _⟩ => ⟨S16x5120, .f32⟩
  | .hbm, ⟨4, _⟩ => ⟨S16x1024x2560, .i32⟩
  | .hbm, ⟨5, _⟩ => ⟨S_, .i32⟩
  | .hbm, ⟨6, _⟩ => ⟨S16x1024x2560, .i32⟩
  | .hbm, ⟨7, _⟩ => ⟨S16x1024x2560, .i32⟩
  | .hbm, ⟨8, _⟩ => ⟨S_, .i32⟩
  | .hbm, ⟨9, _⟩ => ⟨S16x1024x2560, .i32⟩
  | .hbm, ⟨10, _⟩ => ⟨S16x1024x2560, .i32⟩
  | .hbm, ⟨11, _⟩ => ⟨S16x1024x2560, .bf16⟩
  | .hbm, ⟨12, _⟩ => ⟨S_, .i32⟩
  | .hbm, ⟨13, _⟩ => ⟨S16x1024x2560, .i32⟩
  | .hbm, ⟨14, _⟩ => ⟨S16x1024x2560, .i32⟩
  | .hbm, ⟨15, _⟩ => ⟨S_, .i32⟩
  | .hbm, ⟨16, _⟩ => ⟨S16x1024x2560, .i32⟩
  | .hbm, ⟨17, _⟩ => ⟨S16x1024x2560, .i32⟩
  | .hbm, ⟨18, _⟩ => ⟨S16x1024x2560, .bf16⟩
  | .hbm, ⟨19, _⟩ => ⟨S16x1024x5120, .bf16⟩
  | .hbm, ⟨20, _⟩ => ⟨S_, .i32⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16384, .i32⟩
  | .hbm, ⟨25, _⟩ => ⟨S16384x1, .i32⟩
  | .hbm, ⟨26, _⟩ => ⟨S1x16, .i32⟩
  | .hbm, ⟨27, _⟩ => ⟨S16384x16, .i32⟩
  | .hbm, ⟨28, _⟩ => ⟨S16384x16, .i32⟩
  | .hbm, ⟨29, _⟩ => ⟨S16384x16, .i1⟩
  | .hbm, ⟨30, _⟩ => ⟨S1x16, .i32⟩
  | .hbm, ⟨31, _⟩ => ⟨S16384x16, .i32⟩
  | .hbm, ⟨32, _⟩ => ⟨S16384x16, .i32⟩
  | .hbm, ⟨33, _⟩ => ⟨S16384x16, .i1⟩
  | .hbm, ⟨34, _⟩ => ⟨S16384x16, .i1⟩
  | .hbm, ⟨35, _⟩ => ⟨S16384x16, .f32⟩
  | .hbm, ⟨36, _⟩ => ⟨S16384x5120, .f32⟩
  | .hbm, ⟨37, _⟩ => ⟨S16384x5120, .bf16⟩
  | .local _ .vmem, ⟨0, _⟩ => ⟨S16384x1024, .bf16⟩
  | .local _ .vmem, ⟨1, _⟩ => ⟨S16384x16, .f32⟩
  | .local _ .vmem, ⟨2, _⟩ => ⟨S16x1024x5120, .bf16⟩
  | .local _ .vmem, ⟨3, _⟩ => ⟨S16384x5120, .f32⟩
  | .local _ .vmem, ⟨4, _⟩ => ⟨S16384x5120, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_call0_c : Ref sig .tc := ⟨.hbm, 20, rfl⟩
abbrev main_call0_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16384x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Tables.lean ====
/-
  The five tables of work items that the kernel's host code makes from the group sizes: which group an
  item belongs to, which tile of 512 rows it reads, the first and last row of that tile that are the
  group's, and whether it is the first item of its tile. Each is stated as the printed host operations
  and then read, entry by entry, as natural numbers computed from the group sizes.
-/
module

public import Idealize.ShloMosaic.Lib.Routing.Words
public import Idealize.ShloMosaic.Lib.Routing.OpsSet
public import Idealize.ShloMosaic.Lib.Pipeline.Value
public import Idealize.ShloMosaic.Lib.StableHlo.Predicate

@[expose] public section

set_option maxRecDepth 16384

noncomputable section

namespace Cert.Tables

open Idealize.ShloMosaic Idealize.ShloMosaic.ValueIdx Idealize.ShloMosaic.Routing Idealize.ShloMosaic.WordCmp

/-! ## The tables as the host operations compute them -/

abbrev b0 : shape0.BroadcastsInDim shape0 (![] : Fin 0 → Fin shape0.rank) := by decide
abbrev b16 : shape0.BroadcastsInDim (shape1 16) (![] : Fin 0 → Fin (shape1 16).rank) := by decide
abbrev b48 : shape0.BroadcastsInDim (shape1 48) (![] : Fin 0 → Fin (shape1 48).rank) := by decide
abbrev b1 : shape0.BroadcastsInDim (shape1 1) (![] : Fin 0 → Fin (shape1 1).rank) := by decide

/-- The scalar `n`, repeated over the 16 groups. -/
def g16 (n : BitVec 32) : IVec (shape1 16) 32 := broadcastInDim (shape1 16) ![] b16 (constantI shape0 32 n)
/-- The scalar `n`, repeated over the 48 items. -/
def g48 (n : BitVec 32) : IVec (shape1 48) 32 := broadcastInDim (shape1 48) ![] b48 (constantI shape0 32 n)

/-- The running sum of a vector over the groups. -/
def cum (x : IVec (shape1 16) 32) : IVec (shape1 16) 32 :=
  Host.reduceWindow IntOp.addi ![16] ![1] ![15] ![0] x (broadcastInDim shape0 ![] b0 (constantI shape0 32 0#32))
    (by decide) (by decide)

/-- The first row of each group. -/
def starts (gs : IVec (shape1 16) 32) : IVec (shape1 16) 32 := subi (cum gs) gs
/-- The tile of each group's first row. -/
def tile0 (gs : IVec (shape1 16) 32) : IVec (shape1 16) 32 := pyDiv b16 (starts gs) (constantI shape0 32 512#32)
/-- The tile of each group's last row. -/
def tile1 (gs : IVec (shape1 16) 32) : IVec (shape1 16) 32 :=
  pyDiv b16 (subi (cum gs) (g16 1#32)) (constantI shape0 32 512#32)
/-- The number of tiles each group touches. -/
def tiles (gs : IVec (shape1 16) 32) : IVec (shape1 16) 32 :=
  select (cmpi .sgt gs (g16 0#32)) (addi (subi (tile1 gs) (tile0 gs)) (g16 1#32)) (g16 0#32)
/-- The running sum of the numbers of tiles: the first item after each group's. -/
def ends (gs : IVec (shape1 16) 32) : IVec (shape1 16) 32 := cum (tiles gs)
/-- The item numbers. -/
def items : IVec (shape1 48) 32 := iotaInDim (shape1 48) 32 0
/-- For each item, how many groups end at or before it. -/
def count (gs : IVec (shape1 16) 32) : IVec (shape1 48) 32 :=
  Host.reduce IntOp.addi
    (extui 32 (cmpi .sle
      (broadcastInDim (shape2 16 48) ![0, 1] (by decide) (broadcastInDim (shape2 16 1) ![0] (by decide) (ends gs)))
      (broadcastInDim (shape2 16 48) ![0, 1] (by decide) (broadcastInDim (shape2 1 48) ![1] (by decide) items))) (by decide))
    (constantI shape0 32 0#32) (show (shape2 16 48).ReducesTo [0] (shape1 48) by decide) (by decide)
/-- The last group that is not empty. -/
def fill (gs : IVec (shape1 16) 32) : IVec shape0 32 :=
  Host.reduce IntOp.maxsi (select (cmpi .sgt gs (g16 0#32)) (iotaInDim (shape1 16) 32 0) (g16 0#32))
    (constantI shape0 32 2147483648#32) (show (shape1 16).ReducesTo [0] shape0 by decide) (by decide)
/-- The number of items. -/
def total (gs : IVec (shape1 16) 32) : IVec shape0 32 :=
  shapeCast shape0 (extractStridedSlice (shape1 1) ![15] (ends gs) (by decide)) (by decide)
/-- Whether an item is one of the groups' items. -/
def valid (gs : IVec (shape1 16) 32) : IVec (shape1 48) 1 :=
  cmpi .slt items (broadcastInDim (shape1 48) ![] b48 (total gs))
/-- Each item's group. -/
def grp (gs : IVec (shape1 16) 32) : IVec (shape1 48) 32 :=
  select (valid gs) (minsi (count gs) (g48 15#32)) (broadcastInDim (shape1 48) ![] b48 (fill gs))

/-- The dimension numbers of a lookup in a table over the groups. -/
abbrev look : GatherDims (shape1 16) (shape2 48 1) (shape1 48) where
  offsetDims := []
  collapsedSliceDims := [0]
  operandBatchingDims := []
  startIndicesBatchingDims := []
  startIndexMap := [0]
  indexVectorDim := 1
  sliceSizes := ![1]
  wf := by decide

/-- A table over the groups, looked up at each item's group. -/
def atGrp (gs : IVec (shape1 16) 32) (x : IVec (shape1 16) 32) : IVec (shape1 48) 32 :=
  Host.gather look x (broadcastInDim (shape2 48 1) ![0] (by decide)
    (select (cmpi .slt (grp gs) (g48 0#32)) (addi (grp gs) (g48 16#32)) (grp gs)))
/-- Each item's tile. -/
def tile (gs : IVec (shape1 16) 32) : IVec (shape1 48) 32 :=
  select (valid gs) (subi (addi (atGrp gs (tile0 gs)) items) (atGrp gs (subi (ends gs) (tiles gs)))) (g48 31#32)
/-- A vector clipped to the rows of a tile. -/
def clip (x : IVec (shape1 48) 32) : IVec (shape1 48) 32 := minsi (g48 512#32) (maxsi (g48 0#32) x)
/-- The first row of an item's tile that is in its group. -/
def lo (gs : IVec (shape1 16) 32) : IVec (shape1 48) 32 := clip (subi (atGrp gs (starts gs)) (muli (tile gs) (g48 512#32)))
/-- The first row of an item's tile, after `lo`, that is past its group. -/
def hi (gs : IVec (shape1 16) 32) : IVec (shape1 48) 32 :=
  select (valid gs) (clip (subi (atGrp gs (cum gs)) (muli (tile gs) (g48 512#32)))) (lo gs)
/-- Whether an item is the first of its tile. -/
def first (gs : IVec (shape1 16) 32) : IVec (shape1 48) 32 :=
  concatenate (shape1 48) 0
    [⟨shape1 1, broadcastInDim (shape1 1) ![] b1 (constantI shape0 32 1#32)⟩,
     ⟨shape1 47, extui 32 (cmpi .ne (extractStridedSlice (shape1 47) ![1] (tile gs) (by decide))
        (extractStridedSlice (shape1 47) ![0] (tile gs) (by decide))) (by decide)⟩]
    (show Shape.Concatenates [shape1 1, shape1 47] (shape1 48) 0 by decide)

/-! ## The same numbers, as naturals -/

/-- The sum of the first `j` values of `f`. -/
def P (f : ℕ → ℕ) (j : ℕ) : ℕ := ((List.range j).map f).sum

theorem P_zero (f : ℕ → ℕ) : P f 0 = 0 := rfl
theorem P_succ (f : ℕ → ℕ) (j : ℕ) : P f (j + 1) = P f j + f j := by
  simp [P, List.range_succ]
theorem P_mono (f : ℕ → ℕ) {i j : ℕ} (h : i ≤ j) : P f i ≤ P f j := by
  induction j, h using Nat.le_induction with
  | base => exact le_rfl
  | succ n _ ih => rw [P_succ]; omega

/-- The number of tiles group `j` touches. -/
def T (f : ℕ → ℕ) (j : ℕ) : ℕ := if 0 < f j then (P f (j + 1) - 1) / 512 - P f j / 512 + 1 else 0

theorem T_pos {f : ℕ → ℕ} {j : ℕ} (h : 0 < T f j) : 0 < f j := by
  by_contra h0; simp [T, h0] at h

/-- There are at most as many items as tiles the rows fill, plus one per group boundary. -/
theorem P_T_le (f : ℕ → ℕ) (j : ℕ) : P (T f) j ≤ (P f j + 511) / 512 + (j - 1) := by
  induction j with
  | zero => simp [P_zero]
  | succ n ih =>
    rw [P_succ (T f), P_succ f, T]
    rw [P_succ f]
    split
    · rcases Nat.eq_zero_or_pos n with h | h
      · subst h; simp [P_zero] at *; omega
      · omega
    · omega

theorem P_T_le_48 {f : ℕ → ℕ} (h : P f 16 ≤ 16384) : P (T f) 16 ≤ 47 := by
  have := P_T_le f 16; omega

/-- Values below `P f n` fall in one group. -/
theorem exists_group (f : ℕ → ℕ) (n r : ℕ) (h : r < P f n) : ∃ g < n, P f g ≤ r ∧ r < P f (g + 1) := by
  induction n with
  | zero => simp [P_zero] at h
  | succ n ih =>
    by_cases hr : r < P f n
    · obtain ⟨g, hg, h1⟩ := ih hr; exact ⟨g, by omega, h1⟩
    · exact ⟨n, by omega, by omega, h⟩

theorem group_unique {f : ℕ → ℕ} {r g g' : ℕ} (h1 : P f g ≤ r) (h2 : r < P f (g + 1)) (h1' : P f g' ≤ r)
    (h2' : r < P f (g' + 1)) : g = g' := by
  rcases lt_trichotomy g g' with h | h | h
  · have := P_mono f (show g + 1 ≤ g' by omega); omega
  · exact h
  · have := P_mono f (show g' + 1 ≤ g by omega); omega

/-! ## The words hold the naturals -/

section Words
variable {gs : IVec (shape1 16) 32} {f : ℕ → ℕ}

/-- The vector `gs` holds the naturals `f`. -/
def Holds (gs : IVec (shape1 16) 32) (f : ℕ → ℕ) : Prop := ∀ i : Fin 16, gs (ix1 i) = BitVec.ofNat 32 (f i.val)

theorem cum_word (h : Holds gs f) (j : Fin 16) : cum gs (ix1 j) = BitVec.ofNat 32 (P f (j.val + 1)) :=
  cumsum1 (Nm1 := 15) rfl gs f h _ (bc0 _ _ _) _ _ j

theorem starts_word (h : Holds gs f) (j : Fin 16) : starts gs (ix1 j) = BitVec.ofNat 32 (P f j.val) := by
  unfold starts
  rw [subi_ap, cum_word h, h j, P_succ, ofNat32_sub (by omega), Nat.add_sub_cancel]

theorem g16_at (n : BitVec 32) (i) : g16 n i = n := bc0 _ _ _
theorem g48_at (n : BitVec 32) (i) : g48 n i = n := bc0 _ _ _

variable (h : Holds gs f) (hs : P f 16 ≤ 16384)
include h hs

theorem tile0_word (j : Fin 16) : tile0 gs (ix1 j) = BitVec.ofNat 32 (P f j.val / 512) := by
  have := P_mono f (show j.val ≤ 16 by omega)
  exact pyDiv_ap _ _ _ _ (starts_word h j) rfl (by omega) (by omega) (by omega)

theorem tile1_word (j : Fin 16) (hj : 0 < f j.val) : tile1 gs (ix1 j) = BitVec.ofNat 32 ((P f (j.val + 1) - 1) / 512) := by
  have := P_mono f (show j.val + 1 ≤ 16 by omega)
  refine pyDiv_ap _ _ _ _ (a := P f (j.val + 1) - 1) ?_ rfl (by omega) (by omega) (by omega)
  rw [subi_ap, cum_word h, g16_at, show (1#32 : BitVec 32) = BitVec.ofNat 32 1 from rfl, ofNat32_sub]
  rw [P_succ]; omega

theorem tiles_holds : Holds (tiles gs) (T f) := by
  intro j
  have h1 := P_mono f (show j.val + 1 ≤ 16 by omega)
  have h2 := P_succ f j.val
  unfold tiles
  rw [select_at, cmpi_at, g16_at, h j, show (0#32 : BitVec 32) = BitVec.ofNat 32 0 from rfl,
    cmpi_sgt_ofNat (w := 32) (by omega) (by decide), select_decide]
  by_cases hj : 0 < f j.val
  · rw [if_pos hj, addi_ap, subi_ap, tile0_word h hs, tile1_word h hs j hj, g16_at, ofNat32_sub (by omega), T, if_pos hj]
    exact (BitVec.ofNat_add_ofNat _ _)
  · rw [if_neg hj, T, if_neg hj]

theorem ends_word (j : Fin 16) : ends gs (ix1 j) = BitVec.ofNat 32 (P (T f) (j.val + 1)) := cum_word (tiles_holds h hs) j

theorem total_word : total gs ix0 = BitVec.ofNat 32 (P (T f) 16) := by
  have e : total gs ix0 = ends gs (ix1 15) := by
    unfold total
    refine (shapeCast_apply _ _ _ (ix1 0) ?_).trans (slice1 15 _ _ 0 (by decide))
    decide
  rw [e, ends_word h hs]; rfl

theorem valid_word (i : Fin 48) : valid gs (ix1 i) = BitVec.ofBool (decide (i.val < P (T f) 16)) := by
  have := P_T_le_48 hs
  unfold valid items
  rw [cmpi_at, bc0, total_word h hs, iota1_ap]
  exact cmpi_slt_ofNat (w := 32) (by omega) (by omega)

omit h hs in
theorem fold_max_le (l : List (shape1 16).Idx) (x : (shape1 16).Idx → BitVec 32) (hx : ∀ i ∈ l, (x i).toNat < 16)
    (r : BitVec 32) (hr : r.toNat < 16 ∨ (r = 2147483648#32 ∧ l ≠ [])) :
    (l.foldl (fun r i => IntOp.maxsi r (x i)) r).toNat < 16 := by
  have hn : ∀ y : BitVec 32, y.toNat < 16 → y.toInt = (y.toNat : ℤ) := fun y hy =>
    toInt_eq_toNat_of_lt_half (w := 32) (by omega)
  induction l generalizing r with
  | nil => rcases hr with h | h; exact h; exact absurd rfl h.2
  | cons a l ih =>
    rw [List.foldl_cons]
    have ha := hx a (by simp)
    refine ih (fun i hi => hx i (by simp [hi])) _ (Or.inl ?_)
    unfold IntOp.maxsi
    rcases hr with h | ⟨h, -⟩
    · split <;> assumption
    · have : ¬ ((x a).slt r) = true := by
        rw [h, BitVec.slt, hn _ ha]; simp [BitVec.toInt]
      rw [if_neg this]; exact ha

theorem fill_word : (fill gs ix0).toNat < 16 := by
  unfold fill
  rw [Host.reduce_eq_foldl]
  refine fold_max_le _ _ (fun i _ => ?_) _ (Or.inr ⟨rfl, ?_⟩)
  · rw [select_at, g16_at, iotaInDim_at]
    have hi : (i 0).val < 16 := (i 0).isLt
    unfold Scalar.select
    split
    · rw [BitVec.toNat_ofNat]; omega
    · decide
  · refine List.ne_nil_of_mem (a := ix1 0) ?_
    rw [List.mem_filter]
    refine ⟨List.mem_map.2 ⟨(shape1 16).rowMajor (ix1 0), List.mem_finRange _, Equiv.symm_apply_apply _ _⟩, ?_⟩
    exact decide_eq_true (funext fun a => a.elim0)

/-- The number of groups that end at or before item `i`, where item `i` is group `g`'s. -/
theorem count_word (i : Fin 48) (g : ℕ) (hg : g < 16) (h1 : P (T f) g ≤ i.val) (h2 : i.val < P (T f) (g + 1)) :
    count gs (ix1 i) = BitVec.ofNat 32 g := by
  apply BitVec.eq_of_toNat_eq
  unfold count
  rw [StableHlo.Predicate.toNat_reduce_count_rows (by decide), BitVec.toNat_ofNat, Nat.mod_eq_of_lt (by omega)]
  have hb : ∀ p : Fin 16, P (T f) (p.val + 1) < 2 ^ 31 := fun p => by
    have := P_T_le_48 hs; have := P_mono (T f) (show p.val + 1 ≤ 16 by omega); omega
  have e : (Finset.univ.filter fun p : Fin 16 => cmpi .sle
      (broadcastInDim (shape2 16 48) ![0, 1] (by decide) (broadcastInDim (shape2 16 1) ![0] (by decide) (ends gs)))
      (broadcastInDim (shape2 16 48) ![0, 1] (by decide) (broadcastInDim (shape2 1 48) ![1] (by decide) items))
      (StableHlo.Predicate.ij p ((ix1 i : (shape1 48).Idx) 0)) = 1#1) = Finset.univ.filter fun p : Fin 16 => p.val < g := by
    refine Finset.filter_congr fun p _ => ?_
    rw [cmpi_at, ij_eq_ix2, bcRows, bcCols, ends_word h hs]
    unfold items
    rw [show iotaInDim (shape1 48) 32 0 (ix1 ((ix1 i : (shape1 48).Idx) 0)) = BitVec.ofNat 32 i.val from rfl,
      cmpi_sle_ofNat (w := 32) (hb p) (by omega), ofBool_decide_eq_one_iff]
    constructor
    · intro hp; by_contra hc
      have := P_mono (T f) (show g + 1 ≤ p.val + 1 by omega); omega
    · intro hp
      have := P_mono (T f) (show p.val + 1 ≤ g by omega); omega
  refine (congrArg Finset.card e).trans ?_
  have : ∀ g : Fin 16, (Finset.univ.filter fun p : Fin 16 => p.val < g.val).card = g.val := by decide
  exact this ⟨g, hg⟩

/-- The group an item is of. -/
theorem item_group (i : ℕ) (hi : i < P (T f) 16) : ∃ g < 16, P (T f) g ≤ i ∧ i < P (T f) (g + 1) :=
  exists_group _ _ _ hi

/-- A group's word. -/
def G (gs : IVec (shape1 16) 32) (i : Fin 48) : ℕ := (grp gs (ix1 i)).toNat

theorem grp_word_of (i : Fin 48) (g : ℕ) (hg : g < 16) (h1 : P (T f) g ≤ i.val) (h2 : i.val < P (T f) (g + 1)) :
    grp gs (ix1 i) = BitVec.ofNat 32 g := by
  have hi : i.val < P (T f) 16 := by have := P_mono (T f) (show g + 1 ≤ 16 by omega); omega
  unfold grp
  rw [select_at, valid_word h hs, select_ofBool, decide_eq_true hi, if_pos rfl]
  show IntOp.minsi (count gs (ix1 i)) (g48 15#32 (ix1 i)) = _
  rw [count_word h hs i g hg h1 h2, g48_at, show (15#32 : BitVec 32) = BitVec.ofNat 32 15 from rfl]
  unfold IntOp.minsi
  rw [slt_ofNat32 (by omega) (by omega)]
  by_cases hq : g < 15
  · simp [hq]
  · have : g = 15 := by omega
    subst this; rfl

theorem G_lt (i : Fin 48) : G gs i < 16 := by
  unfold G
  by_cases hi : i.val < P (T f) 16
  · obtain ⟨g, hg, h1, h2⟩ := item_group h hs i.val hi
    rw [grp_word_of h hs i g hg h1 h2, BitVec.toNat_ofNat]; omega
  · unfold grp
    rw [select_at, valid_word h hs, select_ofBool, decide_eq_false hi, if_neg (by decide), bc0]
    exact fill_word h hs

omit h hs in
theorem grp_word (i : Fin 48) : grp gs (ix1 i) = BitVec.ofNat 32 (G gs i) := by
  unfold G; rw [BitVec.ofNat_toNat, BitVec.setWidth_eq]

theorem G_of (i : Fin 48) (g : ℕ) (hg : g < 16) (h1 : P (T f) g ≤ i.val) (h2 : i.val < P (T f) (g + 1)) : G gs i = g := by
  unfold G; rw [grp_word_of h hs i g hg h1 h2, BitVec.toNat_ofNat]; omega

theorem G_spec (i : Fin 48) (hi : i.val < P (T f) 16) : P (T f) (G gs i) ≤ i.val ∧ i.val < P (T f) (G gs i + 1) := by
  obtain ⟨g, hg, h1, h2⟩ := item_group h hs i.val hi
  rw [G_of h hs i g hg h1 h2]; exact ⟨h1, h2⟩

theorem atGrp_word (x : IVec (shape1 16) 32) (i : Fin 48) : atGrp gs x (ix1 i) = x (ix1 ⟨G gs i, G_lt h hs i⟩) := by
  have hG := G_lt h hs i
  refine gather_take1 look rfl rfl rfl rfl x _ i ⟨G gs i, hG⟩ ?_ (by decide)
  rw [bcCol, select_at, cmpi_at, g48_at, grp_word i, show (0#32 : BitVec 32) = BitVec.ofNat 32 0 from rfl,
    cmpi_slt_ofNat (w := 32) (by omega) (by decide), select_decide, if_neg (by omega)]

/-- The tile an item reads: a group's items take the tiles from the one its first row is in. -/
def tileN (gs : IVec (shape1 16) 32) (f : ℕ → ℕ) (i : Fin 48) : ℕ :=
  if i.val < P (T f) 16 then P f (G gs i) / 512 + i.val - P (T f) (G gs i) else 31

theorem tile_word (i : Fin 48) : tile gs (ix1 i) = BitVec.ofNat 32 (tileN gs f i) := by
  unfold tile tileN
  rw [select_at, valid_word h hs, select_ofBool]
  by_cases hi : i.val < P (T f) 16
  · have hG := G_spec h hs i hi
    rw [decide_eq_true hi, if_pos rfl, if_pos hi, subi_ap, addi_ap, atGrp_word h hs, atGrp_word h hs, tile0_word h hs, subi_ap,
      ends_word h hs, tiles_holds h hs]
    dsimp only
    have e := P_succ (T f) (G gs i)
    rw [ofNat32_sub (by omega)]
    unfold items
    rw [iota1_ap, BitVec.ofNat_add_ofNat, ofNat32_sub (by omega)]
    have e' : P f (G gs i) / 512 + i.val - (P (T f) (G gs i + 1) - T f (G gs i)) = P f (G gs i) / 512 + i.val - P (T f) (G gs i) := by
      omega
    exact congrArg (BitVec.ofNat 32) e'
  · rw [decide_eq_false hi, if_neg (by decide), if_neg hi, g48_at]

/-- An item's tile lies between the tiles of its group's first and last row. -/
theorem tileN_spec (i : Fin 48) (hi : i.val < P (T f) 16) :
    P f (G gs i) / 512 ≤ tileN gs f i ∧ tileN gs f i ≤ (P f (G gs i + 1) - 1) / 512 ∧ 0 < f (G gs i)
      ∧ tileN gs f i + P (T f) (G gs i) = P f (G gs i) / 512 + i.val := by
  have hG := G_spec h hs i hi
  have e := P_succ (T f) (G gs i)
  have h0 : 0 < f (G gs i) := T_pos (by omega)
  have hT : T f (G gs i) = (P f (G gs i + 1) - 1) / 512 - P f (G gs i) / 512 + 1 := if_pos h0
  have := P_succ f (G gs i)
  unfold tileN; rw [if_pos hi]
  refine ⟨?_, ?_, h0, ?_⟩ <;> omega

theorem tileN_lt (i : Fin 48) : tileN gs f i < 32 := by
  by_cases hi : i.val < P (T f) 16
  · have h1 := tileN_spec h hs i hi
    have := P_mono f (show G gs i + 1 ≤ 16 by have := G_lt h hs i; omega)
    omega
  · unfold tileN; rw [if_neg hi]; omega

/-- Items read their tiles in order. -/
theorem tileN_mono (i i' : Fin 48) (hii : i.val ≤ i'.val) : tileN gs f i ≤ tileN gs f i' := by
  by_cases hi' : i'.val < P (T f) 16
  · have hi : i.val < P (T f) 16 := by omega
    have h1 := tileN_spec h hs i hi
    have h2 := tileN_spec h hs i' hi'
    have g1 := G_spec h hs i hi
    have g2 := G_spec h hs i' hi'
    rcases lt_trichotomy (G gs i) (G gs i') with hg | hg | hg
    · have := P_mono f (show G gs i + 1 ≤ G gs i' by omega)
      have := P_succ f (G gs i)
      omega
    · rw [hg] at h1; omega
    · have := P_mono (T f) (show G gs i' + 1 ≤ G gs i by omega); omega
  · have := tileN_lt h hs i
    have e : tileN gs f i' = 31 := if_neg hi'
    omega

omit h hs in
theorem clip_word (a b : ℕ) (ha : a < 2 ^ 31) (hb : b < 2 ^ 31) :
    IntOp.minsi 512#32 (IntOp.maxsi 0#32 (BitVec.ofNat 32 a - BitVec.ofNat 32 b)) = BitVec.ofNat 32 (min 512 (a - b)) := by
  by_cases hab : b ≤ a
  · rw [ofNat32_sub hab, maxsi_zero_left (by omega), show (512#32 : BitVec 32) = BitVec.ofNat 32 512 from rfl]
    unfold IntOp.minsi
    rw [slt_ofNat32 (by omega) (by omega)]
    by_cases hc : 512 < a - b
    · simp only [hc, decide_true, if_true]; congr 1; omega
    · simp only [hc, decide_false, Bool.false_eq_true, if_false]; congr 1; omega
  · have e : (BitVec.ofNat 32 a - BitVec.ofNat 32 b).toNat = 2 ^ 32 + a - b := by
      rw [BitVec.toNat_sub, BitVec.toNat_ofNat, BitVec.toNat_ofNat]; omega
    have hlt : ((BitVec.ofNat 32 a - BitVec.ofNat 32 b).slt 0#32) = true := by
      rw [BitVec.slt, BitVec.toInt_eq_toNat_cond, e]
      simp only [BitVec.toInt_zero, decide_eq_true_eq]
      split_ifs <;> omega
    rw [show IntOp.maxsi 0#32 (BitVec.ofNat 32 a - BitVec.ofNat 32 b) = 0#32 by unfold IntOp.maxsi; rw [if_pos hlt],
      show min 512 (a - b) = 0 by omega]
    rfl

omit h hs in
theorem mul512 (a : ℕ) : BitVec.ofNat 32 a * 512#32 = BitVec.ofNat 32 (a * 512) := muli_ofNat a 512

/-- The first row of an item's tile that is its group's. -/
def loN (gs : IVec (shape1 16) 32) (f : ℕ → ℕ) (i : Fin 48) : ℕ := min 512 (P f (G gs i) - tileN gs f i * 512)
/-- The first row of an item's tile past its group. -/
def hiN (gs : IVec (shape1 16) 32) (f : ℕ → ℕ) (i : Fin 48) : ℕ :=
  if i.val < P (T f) 16 then min 512 (P f (G gs i + 1) - tileN gs f i * 512) else loN gs f i

theorem lo_word (i : Fin 48) : lo gs (ix1 i) = BitVec.ofNat 32 (loN gs f i) := by
  have hG := G_lt h hs i
  have ht := tileN_lt h hs i
  have := P_mono f (show G gs i ≤ 16 by omega)
  unfold lo clip loN
  show IntOp.minsi (g48 512#32 (ix1 i)) (IntOp.maxsi (g48 0#32 (ix1 i)) _) = _
  rw [g48_at, g48_at, subi_ap, muli_ap, atGrp_word h hs, starts_word h, tile_word h hs, g48_at, mul512]
  dsimp only
  exact clip_word (P f (G gs i)) (tileN gs f i * 512) (by omega) (by omega)

theorem hi_word (i : Fin 48) : hi gs (ix1 i) = BitVec.ofNat 32 (hiN gs f i) := by
  have hG := G_lt h hs i
  have ht := tileN_lt h hs i
  have := P_mono f (show G gs i + 1 ≤ 16 by omega)
  unfold hi hiN
  rw [select_at, valid_word h hs, select_ofBool]
  by_cases hi : i.val < P (T f) 16
  · rw [decide_eq_true hi, if_pos rfl, if_pos hi]
    unfold clip
    show IntOp.minsi (g48 512#32 (ix1 i)) (IntOp.maxsi (g48 0#32 (ix1 i)) _) = _
    rw [g48_at, g48_at, subi_ap, muli_ap, atGrp_word h hs, cum_word h, tile_word h hs, g48_at, mul512]
    dsimp only
    exact clip_word (P f (G gs i + 1)) (tileN gs f i * 512) (by omega) (by omega)
  · rw [decide_eq_false hi, if_neg (by decide), if_neg hi, lo_word h hs]

omit h hs in
/-- The first item's word. -/
theorem first_zero : first gs (ix1 0) = 1#32 := by
  unfold first
  refine (concatenate_pair_apply_left (s₁ := shape1 1) (s₂ := shape1 47) (t := shape1 48) 0 _ _ _ (ix1 0) rfl
    (ix1 (0 : Fin 1)) (fun b => ?_)).trans (bc0 _ _ _)
  match b with
  | ⟨0, _⟩ => rfl

/-- A later item is the first of its tile when the item before it reads another. -/
theorem first_succ (i : ℕ) (hi : i + 1 < 48) : first gs (ix1 ⟨i + 1, hi⟩)
    = BitVec.ofNat 32 (if tileN gs f ⟨i + 1, hi⟩ ≠ tileN gs f ⟨i, by omega⟩ then 1 else 0) := by
  have t1 := tileN_lt h hs ⟨i + 1, hi⟩
  have t2 := tileN_lt h hs ⟨i, by omega⟩
  unfold first
  refine (concatenate_pair_apply_right (s₁ := shape1 1) (s₂ := shape1 47) (t := shape1 48) 0 _ _ _ (ix1 ⟨i + 1, hi⟩) rfl rfl
    (ix1 (⟨i, by omega⟩ : Fin 47)) (fun b hb => ?_) ?_).trans ?_
  · exact absurd (Subsingleton.elim _ _) hb
  · rfl
  · rw [extui_at, cmpi_at, slice1 1 (tile gs) _ ⟨i, by omega⟩ (by show 1 + i < 48; omega),
      slice1 0 (tile gs) _ ⟨i, by omega⟩ (by show 0 + i < 48; omega)]
    have e1 : (⟨1 + i, by omega⟩ : Fin 48) = ⟨i + 1, hi⟩ := Fin.ext (Nat.add_comm _ _)
    have e2 : (⟨0 + i, by omega⟩ : Fin 48) = ⟨i, by omega⟩ := Fin.ext (Nat.zero_add _)
    rw [show (ix1 ⟨1 + (⟨i, by omega⟩ : Fin 47).val, by show 1 + i < 48; omega⟩ : (shape1 48).Idx) = ix1 ⟨i + 1, hi⟩ from congrArg ix1 e1,
      show (ix1 ⟨0 + (⟨i, by omega⟩ : Fin 47).val, by show 0 + i < 48; omega⟩ : (shape1 48).Idx) = ix1 ⟨i, by omega⟩ from congrArg ix1 e2,
      tile_word h hs, tile_word h hs, cmpi_ne_ofNat (w := 32) (by omega) (by omega), setWidth_ofBool]

/-- A row an item writes is one of its group's rows. -/
theorem row_group (i : Fin 48) (ρ : ℕ) (h1 : loN gs f i ≤ ρ) (h2 : ρ < hiN gs f i) :
    P f (G gs i) ≤ tileN gs f i * 512 + ρ ∧ tileN gs f i * 512 + ρ < P f (G gs i + 1) := by
  unfold hiN at h2
  split at h2
  · unfold loN at h1; omega
  · omega

/-- Where the groups fill every row, each row has an item that writes it. -/
theorem row_item (hf : P f 16 = 16384) (r : ℕ) (hr : r < 16384) :
    ∃ i : Fin 48, tileN gs f i = r / 512 ∧ loN gs f i ≤ r % 512 ∧ r % 512 < hiN gs f i := by
  obtain ⟨g, hg, h1, h2⟩ := exists_group f 16 r (by omega)
  have e := P_succ f g
  have h0 : 0 < f g := by omega
  have hT : T f g = (P f (g + 1) - 1) / 512 - P f g / 512 + 1 := if_pos h0
  have eT := P_succ (T f) g
  have m := P_mono (T f) (show g + 1 ≤ 16 by omega)
  have hm := P_T_le_48 hs
  have hi : P (T f) g + (r / 512 - P f g / 512) < P (T f) (g + 1) := by omega
  refine ⟨⟨P (T f) g + (r / 512 - P f g / 512), by omega⟩, ?_⟩
  have hG : G gs ⟨P (T f) g + (r / 512 - P f g / 512), by omega⟩ = g := G_of h hs _ g hg (by simp) hi
  have hv : P (T f) g + (r / 512 - P f g / 512) < P (T f) 16 := by omega
  have ht : tileN gs f ⟨P (T f) g + (r / 512 - P f g / 512), by omega⟩ = r / 512 := by
    unfold tileN; rw [hG, if_pos hv]; dsimp only; omega
  refine ⟨ht, ?_, ?_⟩
  · unfold loN; rw [ht, hG]; omega
  · unfold hiN; rw [if_pos hv, ht, hG]; omega

end Words

end Cert.Tables
-- ==== Proof.Sizes.lean ====
/-
  What the precondition `rows_fit` says of the group sizes: their words hold naturals whose sum is at most the
  number of rows.
-/
module

public import proofs.«01_k».proof.Pre_rows_fit
public import proofs.«01_k».proof.Proof.Tables

@[expose] public section

noncomputable section

namespace Cert.Sizes

open Idealize.ShloMosaic Idealize.ShloMosaic.ValueIdx Idealize.ShloMosaic.Routing Idealize.ShloMosaic.WordCmp

/-- The naturals that the sixteen words hold. -/
def nat (gs : IVec (shape1 16) 32) (i : ℕ) : ℕ := if h : i < 16 then (gs (ix1 ⟨i, h⟩)).toNat else 0

theorem holds (gs : IVec (shape1 16) 32) : Tables.Holds gs (nat gs) := fun i => by
  unfold nat
  rw [dif_pos i.isLt, BitVec.ofNat_toNat, BitVec.setWidth_eq]

theorem and_one {x y : BitVec 1} (h : IntOp.andi x y = 1#1) : x = 1#1 ∧ y = 1#1 := by
  revert x y; decide

theorem le_of_words (x : BitVec 32) (h0 : IntOp.cmpi .sge x 0#32 = 1#1) (h1 : IntOp.cmpi .sle x 16384#32 = 1#1) :
    x.toNat ≤ 16384 := by
  rw [cmpi_sge_zero, ofBool_decide_eq_one_iff] at h0
  rw [cmpi_sle_eq, ofBool_decide_eq_one_iff, toInt_eq_toNat_of_lt_half h0] at h1
  have : (16384#32 : BitVec 32).toInt = 16384 := by decide
  omega

theorem P_le (f : ℕ → ℕ) (n b : ℕ) (h : ∀ i < n, f i ≤ b) : Tables.P f n ≤ n * b := by
  induction n with
  | zero => simp [Tables.P_zero]
  | succ n ih =>
    rw [Tables.P_succ, Nat.succ_mul]
    exact Nat.add_le_add (ih fun i hi => h i (by omega)) (h n (by omega))

theorem sum_word (gs : IVec (shape1 16) 32) (h : (shape1 16).ReducesTo [0] shape0) (hu : 0 < shape0.numel) :
    Host.reduce IntOp.addi gs (constantI shape0 32 0#32) h hu ix0 = BitVec.ofNat 32 (Tables.P (nat gs) 16) :=
  reduce_sum gs (nat gs) (holds gs) h hu

section
variable {F : FTy → Type} [FloatOps F]

/-- Under `rows_fit` the group sizes sum to at most the number of rows. -/
theorem of_fit [Pre_rows_fit.Facts] (x) (gs : IVec (shape1 16) 32) (w) (s)
    (h : Pre_rows_fit.fn (F := F) x gs w s = fun _ => 1#1) : Tables.P (nat gs) 16 ≤ 16384 := by
  have h0 : ∀ i : Fin 16, (gs (ix1 i)).toNat ≤ 16384 ∧ IntOp.cmpi .sle (BitVec.ofNat 32 (Tables.P (nat gs) 16)) 16384#32 = 1#1 := by
    intro i
    have hi := congrFun h (ix1 i)
    unfold Pre_rows_fit.fn at hi
    dsimp only at hi
    rw [andi_at, andi_at, cmpi_at, cmpi_at, bc0, bc0, bc0, constantI_at, constantI_at, cmpi_at, sum_word, constantI_at] at hi
    obtain ⟨h1, h2⟩ := and_one hi
    obtain ⟨h3, h4⟩ := and_one h1
    exact ⟨le_of_words _ h3 h4, h2⟩
  have hb : Tables.P (nat gs) 16 ≤ 16 * 16384 := P_le _ _ _ fun i hi => by
    unfold nat; rw [dif_pos hi]; exact (h0 ⟨i, hi⟩).1
  have h2 := (h0 0).2
  rw [show (16384#32 : BitVec 32) = BitVec.ofNat 32 16384 from rfl, cmpi_sle_ofNat (w := 32) (by omega) (by decide),
    ofBool_decide_eq_one_iff] at h2
  exact h2

end

end Cert.Sizes
-- ==== Proof.KernelEntry.lean ====
module

public import proofs.«01_k».proof.Proof.Gen.Kernel.Launch
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`, `hostOps0_21`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The pipeline's side condition of the tables' contents: every window whose index map reads a table has its block
    inside the array at every point (the printed `ok0`; `True` when no map reads a table).  -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S48 .i32 := Memref.whole main_v26
abbrev htbM0_0 : tbM0_0.IsWhole := Memref.isWhole_whole _
abbrev tbM0_1 : Memref sig .tc .smem S48 .i32 := Memref.whole main_v44
abbrev htbM0_1 : tbM0_1.IsWhole := Memref.isWhole_whole _
abbrev tbM0_2 : Memref sig .tc .smem S48 .i32 := Memref.whole main_v55
abbrev htbM0_2 : tbM0_2.IsWhole := Memref.isWhole_whole _
abbrev tbM0_3 : Memref sig .tc .smem S48 .i32 := Memref.whole main_v67
abbrev htbM0_3 : tbM0_3.IsWhole := Memref.isWhole_whole _
abbrev tbM0_4 : Memref sig .tc .smem S48 .i32 := Memref.whole main_v73
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = {0, 1, 2, 3, 4} from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 1 rfl).trans ((hA c 1).trans (V_main_arg2 m c)),
      ((h c).2 main_arg3 (by decide : main_arg3 ∈ Pipeline.restRefs sig spec0)).trans (V_main_arg3 m c)⟩) h

end Cert.Kernel.Run
-- ==== Proof.KernelTables.lean ====
/-
  The prefetched tables as functions of the group sizes (Proof/Tables.lean), and the pipeline's side
  condition of them: at group sizes that fit the rows, every block a table names is inside its array.
-/
module

public import proofs.«01_k».proof.Proof.KernelEntry
public import proofs.«01_k».proof.Proof.Tables
public import Idealize.ShloMosaic.Lib.StableHlo.RunRead

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables the region is entered with, as functions of the group sizes -/

/-- The group sizes core `c` is launched with. -/
abbrev sizes (c : Dev nD) : IVec (Routing.shape1 16) 32 := m ((c : Thread nD τ).loc main_arg1)

theorem V_grp (c : Dev nD) : V m c main_v26 = Tables.grp (sizes m c) := by
  unfold V
  after_reads_simp
  simp only [StableHlo.TRef.ofBuf_toBuf, id]
  simp only [StableHlo.TRef.ofBuf, StableHlo.TRef.toBuf, cast_eq]
  simp only [Tables.grp, Tables.valid, Tables.items, Tables.total, Tables.ends, Tables.tiles, Tables.tile0, Tables.tile1, Tables.starts, Tables.cum,
    Tables.g16, Tables.g48, Tables.count, Tables.fill, Tables.atGrp, Tables.tile, Tables.clip, Tables.lo, Tables.hi, Tables.first, Routing.pyDiv]
  rfl

theorem V_tile (c : Dev nD) : V m c main_v44 = Tables.tile (sizes m c) := by
  unfold V
  after_reads_simp
  simp only [StableHlo.TRef.ofBuf_toBuf, id]
  simp only [StableHlo.TRef.ofBuf, StableHlo.TRef.toBuf, cast_eq]
  simp only [Tables.grp, Tables.valid, Tables.items, Tables.total, Tables.ends, Tables.tiles, Tables.tile0, Tables.tile1, Tables.starts, Tables.cum,
    Tables.g16, Tables.g48, Tables.count, Tables.fill, Tables.atGrp, Tables.tile, Tables.clip, Tables.lo, Tables.hi, Tables.first, Routing.pyDiv]
  rfl

theorem V_lo (c : Dev nD) : V m c main_v55 = Tables.lo (sizes m c) := by
  unfold V
  after_reads_simp
  simp only [StableHlo.TRef.ofBuf_toBuf, id]
  simp only [StableHlo.TRef.ofBuf, StableHlo.TRef.toBuf, cast_eq]
  simp only [Tables.grp, Tables.valid, Tables.items, Tables.total, Tables.ends, Tables.tiles, Tables.tile0, Tables.tile1, Tables.starts, Tables.cum,
    Tables.g16, Tables.g48, Tables.count, Tables.fill, Tables.atGrp, Tables.tile, Tables.clip, Tables.lo, Tables.hi, Tables.first, Routing.pyDiv]
  rfl

theorem V_hi (c : Dev nD) : V m c main_v67 = Tables.hi (sizes m c) := by
  unfold V
  after_reads_simp
  simp only [StableHlo.TRef.ofBuf_toBuf, id]
  simp only [StableHlo.TRef.ofBuf, StableHlo.TRef.toBuf, cast_eq]
  simp only [Tables.grp, Tables.valid, Tables.items, Tables.total, Tables.ends, Tables.tiles, Tables.tile0, Tables.tile1, Tables.starts, Tables.cum,
    Tables.g16, Tables.g48, Tables.count, Tables.fill, Tables.atGrp, Tables.tile, Tables.clip, Tables.lo, Tables.hi, Tables.first, Routing.pyDiv]
  rfl

theorem concat_congr {a a' : S1.Idx → BitVec 32} {b b' : S47.Idx → BitVec 32} (ha : a = a') (hb : b = b')
    (h : Shape.Concatenates [S1, S47] S48 0) :
    concatenate S48 0 [⟨S1, a⟩, ⟨S47, b⟩] h = concatenate S48 0 [⟨S1, a'⟩, ⟨S47, b'⟩] h := by subst ha hb; rfl

theorem V_first (c : Dev nD) : V m c main_v73 = Tables.first (sizes m c) := by
  unfold V
  after_reads_simp
  refine concat_congr ?_ ?_ _
  · after_reads_simp
  · after_reads_simp
    simp only [StableHlo.TRef.ofBuf_toBuf, id]
    simp only [StableHlo.TRef.ofBuf, StableHlo.TRef.toBuf, cast_eq]
    simp only [Tables.grp, Tables.valid, Tables.items, Tables.total, Tables.ends, Tables.tiles, Tables.tile0, Tables.tile1, Tables.starts, Tables.cum,
      Tables.g16, Tables.g48, Tables.count, Tables.fill, Tables.atGrp, Tables.tile, Tables.clip, Tables.lo, Tables.hi, Tables.first, Routing.pyDiv]
    rfl

/-- The weight scales as the region finds them: the argument with a unit axis put in. -/
theorem V_scale (c : Dev nD) : V m c main_v74
    = broadcastInDim S16x1x5120 ![0, 2] bcast_S16x5120_S16x1x5120_0_2 (m ((c : Thread nD τ).loc main_arg3)) := by
  unfold V
  after_reads_simp

/-! ## The tables' words at a grid point -/

/-- Point `i` of the grid reads each table's word `i`. -/
theorem off_eq (i : grid0.Coords) : (k0_off1 i) = ![(i 0).val] := by
  unfold k0_off1
  funext a
  match a with
  | ⟨0, _⟩ =>
    have hi : (i 0).val < 48 := (i 0).isLt
    show (BitVec.ofNat 32 (i 0).val).toNat = (i 0).val
    rw [BitVec.toNat_ofNat, Nat.mod_eq_of_lt (by omega)]

theorem emb_eq (i : grid0.Coords) (h : ∀ a, (k0_off1 i) a + S1.size a ≤ S48.size a) (x : S1.Idx) :
    (Rect.unit (s := S48) (k0_off1 i) S1.size h).emb x = ValueIdx.ix1 (⟨(i 0).val, (i 0).isLt⟩ : Fin 48) := by
  funext a
  match a with
  | ⟨0, _⟩ =>
    refine Fin.ext ?_
    have hx : (x 0).val = 0 := by have := (x 0).isLt; simp at this; omega
    show k0_off1 i 0 + 1 * (x 0).val = (i 0).val
    rw [off_eq, hx]; rfl

/-- The item of point `i`. -/
abbrev pt (i : grid0.Coords) : Fin 48 := ⟨(i 0).val, (i 0).isLt⟩

section Maps
variable {f : ℕ → ℕ} (h : Tables.Holds (sizes m 0) f) (hs : Tables.P f 16 ≤ 16384)
include h hs

/-- The group table's word at a point. -/
theorem word_grp (i : grid0.Coords) : (tbl m).at 0 (Rect.unit (s := S48) (k0_off1 i) S1.size (k0_off1_inb i)) numel1_S1 = BitVec.ofNat 32 (Tables.G (sizes m 0) (pt i)) := by
  show V m 0 main_v26 ((Rect.unit (s := S48) (k0_off1 i) S1.size (k0_off1_inb i)).emb _) = _
  rw [V_grp]
  refine (congrArg (Tables.grp (sizes m 0)) (emb_eq i _ _)).trans ?_
  exact Tables.grp_word (pt i)
/-- The tile table's word at a point. -/
theorem word_tile (i : grid0.Coords) : (tbl m).at 1 (Rect.unit (s := S48) (k0_off1 i) S1.size (k0_off1_inb i)) numel1_S1 = BitVec.ofNat 32 (Tables.tileN (sizes m 0) f (pt i)) := by
  show V m 0 main_v44 ((Rect.unit (s := S48) (k0_off1 i) S1.size (k0_off1_inb i)).emb _) = _
  rw [V_tile]
  refine (congrArg (Tables.tile (sizes m 0)) (emb_eq i _ _)).trans ?_
  exact Tables.tile_word h hs (pt i)

/-- The input rows' block index at a point. -/
theorem map0 (i : grid0.Coords) : cc0_transform_0 k0_off1_inb numel1_S1 (tbl m) i = ![Tables.tileN (sizes m 0) f (pt i), 0] := by
  have hw := word_tile m h hs i
  have ht := Tables.tileN_lt h hs (pt i)
  have e : ((tbl m).at 1 (Rect.unit (s := S48) (k0_off1 i) S1.size (k0_off1_inb i)) numel1_S1).toNat = Tables.tileN (sizes m 0) f (pt i) := by
    rw [hw, BitVec.toNat_ofNat, Nat.mod_eq_of_lt (by omega)]
  exact congrArg (fun n => (![n, 0] : Fin 2 → Nat)) e
/-- The packed weights' block index at a point. -/
theorem map1 (i : grid0.Coords) : cc0_transform_1 k0_off1_inb numel1_S1 (tbl m) i = ![Tables.G (sizes m 0) (pt i), 0, 0] := by
  have hw := word_grp m h hs i
  have ht := Tables.G_lt h hs (pt i)
  have e : ((tbl m).at 0 (Rect.unit (s := S48) (k0_off1 i) S1.size (k0_off1_inb i)) numel1_S1).toNat = Tables.G (sizes m 0) (pt i) := by
    rw [hw, BitVec.toNat_ofNat, Nat.mod_eq_of_lt (by omega)]
  exact congrArg (fun n => (![n, 0, 0] : Fin 3 → Nat)) e
/-- The weight scales' block index at a point. -/
theorem map2 (i : grid0.Coords) : cc0_transform_2 k0_off1_inb numel1_S1 (tbl m) i = ![Tables.G (sizes m 0) (pt i), 0, 0] :=
  map1 m h hs i
/-- The output rows' block index at a point. -/
theorem map3 (i : grid0.Coords) : cc0_transform_3 k0_off1_inb numel1_S1 (tbl m) i = ![Tables.tileN (sizes m 0) f (pt i), 0] :=
  map0 m h hs i

end Maps

/-! The blocks at each row or expert of a table lie in their arrays and start and end on words. -/

theorem k0' : ∀ n : Fin 32, ∃ h : (∀ a, ((![n.val, 0] : Fin 2 → Nat) a + 1) * S512x1024.size a ≤ S16384x1024.size a), EltTy.bits .bf16 = 32 ∨ (Rect.block (s := S16384x1024) S512x1024.size ![n.val, 0] h).WholeWords (EltTy.packing .bf16) := by
  decide +kernel
theorem k0 (n : ℕ) (hn : n < 32) : ∃ h : (∀ a, ((![n, 0] : Fin 2 → Nat) a + 1) * S512x1024.size a ≤ S16384x1024.size a), EltTy.bits .bf16 = 32 ∨ (Rect.block (s := S16384x1024) S512x1024.size ![n, 0] h).WholeWords (EltTy.packing .bf16) := k0' ⟨n, hn⟩
theorem k1' : ∀ n : Fin 16, ∃ h : (∀ a, ((![n.val, 0, 0] : Fin 3 → Nat) a + 1) * S1x1024x2560.size a ≤ S16x1024x2560.size a), EltTy.bits .i8 = 32 ∨ (Rect.block (s := S16x1024x2560) S1x1024x2560.size ![n.val, 0, 0] h).WholeWords (EltTy.packing .i8) := by
  decide +kernel
theorem k1 (n : ℕ) (hn : n < 16) : ∃ h : (∀ a, ((![n, 0, 0] : Fin 3 → Nat) a + 1) * S1x1024x2560.size a ≤ S16x1024x2560.size a), EltTy.bits .i8 = 32 ∨ (Rect.block (s := S16x1024x2560) S1x1024x2560.size ![n, 0, 0] h).WholeWords (EltTy.packing .i8) := k1' ⟨n, hn⟩
theorem k2' : ∀ n : Fin 16, ∃ h : (∀ a, ((![n.val, 0, 0] : Fin 3 → Nat) a + 1) * S1x1x5120.size a ≤ S16x1x5120.size a), EltTy.bits .f32 = 32 ∨ (Rect.block (s := S16x1x5120) S1x1x5120.size ![n.val, 0, 0] h).WholeWords (EltTy.packing .f32) := by
  decide +kernel
theorem k2 (n : ℕ) (hn : n < 16) : ∃ h : (∀ a, ((![n, 0, 0] : Fin 3 → Nat) a + 1) * S1x1x5120.size a ≤ S16x1x5120.size a), EltTy.bits .f32 = 32 ∨ (Rect.block (s := S16x1x5120) S1x1x5120.size ![n, 0, 0] h).WholeWords (EltTy.packing .f32) := k2' ⟨n, hn⟩
theorem k3' : ∀ n : Fin 32, ∃ h : (∀ a, ((![n.val, 0] : Fin 2 → Nat) a + 1) * S512x5120.size a ≤ S16384x5120.size a), EltTy.bits .bf16 = 32 ∨ (Rect.block (s := S16384x5120) S512x5120.size ![n.val, 0] h).WholeWords (EltTy.packing .bf16) := by
  decide +kernel
theorem k3 (n : ℕ) (hn : n < 32) : ∃ h : (∀ a, ((![n, 0] : Fin 2 → Nat) a + 1) * S512x5120.size a ≤ S16384x5120.size a), EltTy.bits .bf16 = 32 ∨ (Rect.block (s := S16384x5120) S512x5120.size ![n, 0] h).WholeWords (EltTy.packing .bf16) := k3' ⟨n, hn⟩

variable {m} in
/-- THE SIDE CONDITION OF THE TABLES: at group sizes that fit the rows, each block is inside its array. -/
theorem ok_of_fits {f : ℕ → ℕ} (h : Tables.Holds (sizes m 0) f) (hs : Tables.P f 16 ≤ 16384) : Ok m := by
  have e0 : tbl m 0 = Tables.grp (sizes m 0) := V_grp m 0
  have e1 : tbl m 1 = Tables.tile (sizes m 0) := V_tile m 0
  have w0 := fun i : grid0.Coords => map0 m h hs i
  have w1 := fun i : grid0.Coords => map1 m h hs i
  have w2 := fun i : grid0.Coords => map2 m h hs i
  have w3 := fun i : grid0.Coords => map3 m h hs i
  unfold Ok ok0
  refine ⟨fun i => ?_, fun i => ?_, fun i => ?_, fun i => ?_⟩
  · rw [w0 i]; exact k0 _ (Tables.tileN_lt h hs (pt i))
  · rw [w1 i]; exact k1 _ (Tables.G_lt h hs (pt i))
  · rw [w2 i]; exact k2 _ (Tables.G_lt h hs (pt i))
  · rw [w3 i]; exact k3 _ (Tables.tileN_lt h hs (pt i))

end Cert.Kernel.Run
-- ==== Proof.KernelBody.lean ====
module

public import proofs.«01_k».proof.Proof.KernelEntry
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple on whole staging memrefs: the inputs' buffers and the tables are handed back as they were, the
    output's buffer and the two scratch buffers at some contents. -/
theorem sound_kernel (c : Dev nD) (E : Set ℕ) (i : grid0.Coords) (arg6 : Memref sig .tc .vmem S512x1024 .bf16) (harg6 : arg6.IsWhole) (arg7 : Memref sig .tc .vmem S1x1024x2560 .i8) (harg7 : arg7.IsWhole) (arg8 : Memref sig .tc .vmem S1x1x5120 .f32) (harg8 : arg8.IsWhole) (arg9 : Memref sig .tc .vmem S512x5120 .bf16) (harg9 : arg9.IsWhole) (arg10 : Memref sig .tc .vmem S512x1024 .bf16) (harg10 : arg10.IsWhole) (arg11 : Memref sig .tc .vmem S512x128 .f32) (harg11 : arg11.IsWhole)
    (x0 : Vec F S512x1024 .bf16) (x1 : Vec F S1x1024x2560 .i8) (x2 : Vec F S1x1x5120 .f32)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (K : PUnit → sProp 𝕄) :
    iprop(owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d) ∗ (∃ d, owns (c : Thread nD τ) arg11 fullShare d) ∗ tbPt0 c tbM0_0 xt0 ∗ tbPt0 c tbM0_1 xt1 ∗ tbPt0 c tbM0_2 xt2 ∗ tbPt0 c tbM0_3 xt3 ∗ tbPt0 c tbM0_4 xt4
        ∗ (iprop(owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d) ∗ (∃ d, owns (c : Thread nD τ) arg11 fullShare d) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
      ⊢ wp frame (wpE (defs₀ (F := F)) Variants.none c none) E (cc0_grouped_matmul i tbM0_0 htbM0_0 tbM0_1 htbM0_1 tbM0_2 htbM0_2 tbM0_3 htbM0_3 tbM0_4 htbM0_4 arg6 harg6 arg7 harg7 arg8 harg8 arg9 harg9 arg10 harg10 arg11 harg11) K := by
  simp only [cc0_grouped_matmul_eq_skeleton]; unfold cc0_grouped_matmul_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, HT0, HT1, HT2, HT3, HT4, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [HT0]; · iexact HT0
  isplitl [HT1]; · iexact HT1
  isplitl [HT2]; · iexact HT2
  isplitl [HT3]; · iexact HT3
  iexact HT4

/-! ## The pipeline's proof data -/

/-- What is held between points: the two scratch buffers at some contents, the generator register, and the tables. -/
def Phi (c : Dev nD) : sProp 𝕄 :=
  iprop((∃ d, owns (c : Thread nD τ) (Memref.whole cc0_scratch0) fullShare d) ∗ (∃ d, owns (c : Thread nD τ) (Memref.whole cc0_scratch1) fullShare d)
    ∗ (∃ r, prngReg c r) ∗ tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4))

/-- It is the region's scoped buffers, the register and the tables. -/
theorem Phi_eq (c : Dev nD) : (Phi m c : sProp 𝕄) = iprop(Pipeline.ΦA spec0 c ∗ Pipeline.ΦT pre0 (tbl m) c) := by
  rw [PhiT0_eq]
  unfold Phi Pipeline.ΦA
  rw [scopedRest0_eq]
  simp only [owns_whole]
  have h₁ : ∀ A B C D : sProp 𝕄, iprop(A ∗ B ∗ C ∗ D) ⊢ iprop(((A ∗ B) ∗ C) ∗ D) := fun A B C D => by
    iintro ⟨A, B, C, D⟩
    isplitl [A B C]
    · isplitl [A B]
      · isplitl [A]; · iexact A
        iexact B
      iexact C
    iexact D
  have h₂ : ∀ A B C D : sProp 𝕄, iprop(((A ∗ B) ∗ C) ∗ D) ⊢ iprop(A ∗ B ∗ C ∗ D) := fun A B C D => by
    iintro ⟨⟨⟨A, B⟩, C⟩, D⟩
    isplitl [A]; · iexact A
    isplitl [B]; · iexact B
    isplitl [C]; · iexact C
    iexact D
  exact BI.equiv_iff.mp ⟨h₁ _ _ _ _, h₂ _ _ _ _⟩

/-- The proof data of the one pipeline on core `c`, for the frame: the arrays as the region finds them (`V`), an
    input's buffer left as found, the output's at anything, and between points the scratch at anything beside the tables. -/
def rdat (hO : Ok m) (c : Dev nD) : Pipeline.RDat τ (Elt F) Unit ℕ (UR sig nD τ) ℕ (cfgM m hO) c where
  A w := V m c (Pipeline.arrRef spec0 w)
  after w _ Y X := w ≠ 3 → X = Y
  Φ _ := Phi m c
  q _ := fullShare
  owed _ := 0

/-- The body table's row at point `t`. -/
theorem defs₀_row (hO : Ok m) (t : Fin (cfgM m hO).N) :
    defs₀ (F := F) .tc (cfgM m hO).body ((cfgM m hO).bodyArgs t ((cfgM m hO).slots t))
      = cc0_grouped_matmul (grid0.coords t) tbM0_0 htbM0_0 tbM0_1 htbM0_1 tbM0_2 htbM0_2 tbM0_3 htbM0_3 tbM0_4 htbM0_4
          (spec0_0.stage ((cfgM m hO).slots t 0)) (hstage0_0 (((cfgM m hO).slots t 0).cast nbuf0_0))
          (spec0_1.stage ((cfgM m hO).slots t 1)) (hstage0_1 (((cfgM m hO).slots t 1).cast nbuf0_1))
          (spec0_2.stage ((cfgM m hO).slots t 2)) (hstage0_2 (((cfgM m hO).slots t 2).cast nbuf0_2))
          (spec0_3.stage ((cfgM m hO).slots t 3)) (hstage0_3 (((cfgM m hO).slots t 3).cast nbuf0_3))
          (Memref.whole cc0_scratch0) (Memref.isWhole_whole _) (Memref.whole cc0_scratch1) (Memref.isWhole_whole _) := by
  unfold defs₀; rw [Defs.onTc_tc]

/-- The body at any point: the triple, the register passing through unread. -/
theorem sound_body (hO : Ok m) (c : Dev nD) (t : Fin (cfgM m hO).N) (O : sProp 𝕄)
    (Y0 : Vec F S512x1024 .bf16) (Y1 : Vec F S1x1024x2560 .i8) (Y2 : Vec F S1x1x5120 .f32) (Y3 : Vec F S512x5120 .bf16) :
    iprop(Phi m c ∗ O ∗ owns (c : Thread nD τ) (spec0_0.stage ((cfgM m hO).slots t 0)) fullShare Y0 ∗ owns (c : Thread nD τ) (spec0_1.stage ((cfgM m hO).slots t 1)) fullShare Y1
        ∗ owns (c : Thread nD τ) (spec0_2.stage ((cfgM m hO).slots t 2)) fullShare Y2 ∗ owns (c : Thread nD τ) (spec0_3.stage ((cfgM m hO).slots t 3)) fullShare Y3)
      ⊢ wp frame (wpE (defs₀ (F := F)) Variants.none c none) Set.univ (defs₀ (F := F) .tc (cfgM m hO).body ((cfgM m hO).bodyArgs t ((cfgM m hO).slots t)))
          (fun _ => iprop(Phi m c ∗ O ∗ (∃ X, ⌜(0 : Fin 4) ≠ 3 → X = Y0⌝ ∗ owns (c : Thread nD τ) (spec0_0.stage ((cfgM m hO).slots t 0)) fullShare X)
            ∗ (∃ X, ⌜(1 : Fin 4) ≠ 3 → X = Y1⌝ ∗ owns (c : Thread nD τ) (spec0_1.stage ((cfgM m hO).slots t 1)) fullShare X)
            ∗ (∃ X, ⌜(2 : Fin 4) ≠ 3 → X = Y2⌝ ∗ owns (c : Thread nD τ) (spec0_2.stage ((cfgM m hO).slots t 2)) fullShare X)
            ∗ (∃ X, ⌜(3 : Fin 4) ≠ 3 → X = Y3⌝ ∗ owns (c : Thread nD τ) (spec0_3.stage ((cfgM m hO).slots t 3)) fullShare X))) := by
  rw [defs₀_row]
  unfold Phi
  iintro ⟨⟨S0, S1, R, T0, T1, T2, T3, T4⟩, Ho, H0, H1, H2, H3⟩
  iapply (sound_kernel c Set.univ _ _ _ _ _ _ _ _ _ _ _ _ _ Y0 Y1 Y2 (tbl m 0) (tbl m 1) (tbl m 2) (tbl m 3) (tbl m 4) _)
  isplitl [H0]; · iexact H0
  isplitl [H1]; · iexact H1
  isplitl [H2]; · iexact H2
  isplitl [H3]; · iexists _; iexact H3
  isplitl [S0]; · iexact S0
  isplitl [S1]; · iexact S1
  isplitl [T0]; · iexact T0
  isplitl [T1]; · iexact T1
  isplitl [T2]; · iexact T2
  isplitl [T3]; · iexact T3
  isplitl [T4]; · iexact T4
  iintro ⟨H0, H1, H2, ⟨%d, H3⟩, S0, S1, T0, T1, T2, T3, T4⟩
  isplitl [S0 S1 R T0 T1 T2 T3 T4]
  · isplitl [S0]; · iexact S0
    isplitl [S1]; · iexact S1
    isplitl [R]; · iexact R
    isplitl [T0]; · iexact T0
    isplitl [T1]; · iexact T1
    isplitl [T2]; · iexact T2
    isplitl [T3]; · iexact T3
    iexact T4
  isplitl [Ho]; · iexact Ho
  isplitl [H0]; · iexists _; isplitr; swap; · iexact H0
                  ipureintro; exact fun _ => rfl
  isplitl [H1]; · iexists _; isplitr; swap; · iexact H1
                  ipureintro; exact fun _ => rfl
  isplitl [H2]; · iexists _; isplitr; swap; · iexact H2
                  ipureintro; exact fun _ => rfl
  iexists d; isplitr; swap; · iexact H3
  ipureintro; exact fun h => absurd rfl h

/-- The library's body obligation, at every point. -/
theorem body_obligation (hO : Ok m) (c : Dev nD) : (rdat m hO c).BodyObligation (defs₀ (F := F)) Variants.none () Set.univ := fun t Y _ => by
  rw [bigSep_W0, bigSep_W0]
  exact triple_restated (sound_body m hO c t ((rdat m hO c).owesAt () t.castSucc) (Y 0) (Y 1) (Y 2) (Y 3)) rfl .rfl fun _ => .rfl

set_option backward.isDefEq.respectTransparency.types false in
set_option maxHeartbeats 800000 in
/-- THE LAUNCH: every weakly fair execution of @main terminates with the pipeline's arrays in the data's relation, every
    other buffer as the region found it, and every semaphore counter at zero. -/
theorem run_main_quiescent (hO : Ok m) : θ_run defs (onTc (τ := τ) (main (F := F))) (s₀ m ρ)
    (fun r => (Pipeline.RDat.FramePost ((Pipeline.pin pcfgs fun _ => adm m hO) 0) (rdat m hO) (V m)) r ∧ r.2.sem = fun _ => 0) :=
  Pipeline.RDat.θ_run_frameP (Q' := _) pcfgs (fun _ => adm m hO) (0 : Fin 1) launch0 defs₀ Variants.none (rdat m hO) m ρ main
    (hbody := body_obligation m hO) (hshare := fun c w => (rdat m hO c).share_full (fun _ => rfl) w)
    (howed := fun _ _ => rfl) (V := V m) (hmain := hmain m Variants.none) (hA := fun _ _ => rfl) (hpf := V_pre m) (hΦ := fun c _ => Phi_eq m c)

/-- THE FRAME, when the tables keep every block inside its array: every execution of @main terminates with the argument
    arrays unchanged and every semaphore counter at zero. -/
theorem frame_of_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ hO (rdat m hO) (fun _ _ => rfl) ((θ_run defs _ _).mono (fun _ h => h.1) (run_main_quiescent m ρ hO)))
    ((θ_run defs _ _).mono (fun _ h => h.2) (run_main_quiescent m ρ hO))

end Cert.Kernel.Run
-- ==== Proof.KernelIdealEntry.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`, `hostOps0_21`. -/
def V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The pipeline's side condition of the tables' contents: every window whose index map reads a table has its block
    inside the array at every point (the printed `ok0`; `True` when no map reads a table).  -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S48 .i32 := Memref.whole main_v26
abbrev htbM0_0 : tbM0_0.IsWhole := Memref.isWhole_whole _
abbrev tbM0_1 : Memref sig .tc .smem S48 .i32 := Memref.whole main_v44
abbrev htbM0_1 : tbM0_1.IsWhole := Memref.isWhole_whole _
abbrev tbM0_2 : Memref sig .tc .smem S48 .i32 := Memref.whole main_v55
abbrev htbM0_2 : tbM0_2.IsWhole := Memref.isWhole_whole _
abbrev tbM0_3 : Memref sig .tc .smem S48 .i32 := Memref.whole main_v67
abbrev htbM0_3 : tbM0_3.IsWhole := Memref.isWhole_whole _
abbrev tbM0_4 : Memref sig .tc .smem S48 .i32 := Memref.whole main_v73
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = {0, 1, 2, 3, 4} from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 1 rfl).trans ((hA c 1).trans (V_main_arg2 m c)),
      ((h c).2 main_arg3 (by decide : main_arg3 ∈ Pipeline.restRefs sig spec0)).trans (V_main_arg3 m c)⟩) h

end Cert.KernelIdeal.Run
-- ==== Proof.KernelIdealTables.lean ====
/-
  The prefetched tables as functions of the group sizes (Proof/Tables.lean), and the pipeline's side
  condition of them: at group sizes that fit the rows, every block a table names is inside its array.
-/
module

public import proofs.«01_k».proof.Proof.KernelIdealEntry
public import proofs.«01_k».proof.Proof.Tables
public import Idealize.ShloMosaic.Lib.StableHlo.RunRead

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables the region is entered with, as functions of the group sizes -/

/-- The group sizes core `c` is launched with. -/
abbrev sizes (c : Dev nD) : IVec (Routing.shape1 16) 32 := m ((c : Thread nD τ).loc main_arg1)

theorem V_grp (c : Dev nD) : V m c main_v26 = Tables.grp (sizes m c) := by
  unfold V
  after_reads_simp
  simp only [StableHlo.TRef.ofBuf_toBuf, id]
  simp only [StableHlo.TRef.ofBuf, StableHlo.TRef.toBuf, cast_eq]
  simp only [Tables.grp, Tables.valid, Tables.items, Tables.total, Tables.ends, Tables.tiles, Tables.tile0, Tables.tile1, Tables.starts, Tables.cum,
    Tables.g16, Tables.g48, Tables.count, Tables.fill, Tables.atGrp, Tables.tile, Tables.clip, Tables.lo, Tables.hi, Tables.first, Routing.pyDiv]
  rfl

theorem V_tile (c : Dev nD) : V m c main_v44 = Tables.tile (sizes m c) := by
  unfold V
  after_reads_simp
  simp only [StableHlo.TRef.ofBuf_toBuf, id]
  simp only [StableHlo.TRef.ofBuf, StableHlo.TRef.toBuf, cast_eq]
  simp only [Tables.grp, Tables.valid, Tables.items, Tables.total, Tables.ends, Tables.tiles, Tables.tile0, Tables.tile1, Tables.starts, Tables.cum,
    Tables.g16, Tables.g48, Tables.count, Tables.fill, Tables.atGrp, Tables.tile, Tables.clip, Tables.lo, Tables.hi, Tables.first, Routing.pyDiv]
  rfl

theorem V_lo (c : Dev nD) : V m c main_v55 = Tables.lo (sizes m c) := by
  unfold V
  after_reads_simp
  simp only [StableHlo.TRef.ofBuf_toBuf, id]
  simp only [StableHlo.TRef.ofBuf, StableHlo.TRef.toBuf, cast_eq]
  simp only [Tables.grp, Tables.valid, Tables.items, Tables.total, Tables.ends, Tables.tiles, Tables.tile0, Tables.tile1, Tables.starts, Tables.cum,
    Tables.g16, Tables.g48, Tables.count, Tables.fill, Tables.atGrp, Tables.tile, Tables.clip, Tables.lo, Tables.hi, Tables.first, Routing.pyDiv]
  rfl

theorem V_hi (c : Dev nD) : V m c main_v67 = Tables.hi (sizes m c) := by
  unfold V
  after_reads_simp
  simp only [StableHlo.TRef.ofBuf_toBuf, id]
  simp only [StableHlo.TRef.ofBuf, StableHlo.TRef.toBuf, cast_eq]
  simp only [Tables.grp, Tables.valid, Tables.items, Tables.total, Tables.ends, Tables.tiles, Tables.tile0, Tables.tile1, Tables.starts, Tables.cum,
    Tables.g16, Tables.g48, Tables.count, Tables.fill, Tables.atGrp, Tables.tile, Tables.clip, Tables.lo, Tables.hi, Tables.first, Routing.pyDiv]
  rfl

theorem concat_congr {a a' : S1.Idx → BitVec 32} {b b' : S47.Idx → BitVec 32} (ha : a = a') (hb : b = b')
    (h : Shape.Concatenates [S1, S47] S48 0) :
    concatenate S48 0 [⟨S1, a⟩, ⟨S47, b⟩] h = concatenate S48 0 [⟨S1, a'⟩, ⟨S47, b'⟩] h := by subst ha hb; rfl

theorem V_first (c : Dev nD) : V m c main_v73 = Tables.first (sizes m c) := by
  unfold V
  after_reads_simp
  refine concat_congr ?_ ?_ _
  · after_reads_simp
  · after_reads_simp
    simp only [StableHlo.TRef.ofBuf_toBuf, id]
    simp only [StableHlo.TRef.ofBuf, StableHlo.TRef.toBuf, cast_eq]
    simp only [Tables.grp, Tables.valid, Tables.items, Tables.total, Tables.ends, Tables.tiles, Tables.tile0, Tables.tile1, Tables.starts, Tables.cum,
      Tables.g16, Tables.g48, Tables.count, Tables.fill, Tables.atGrp, Tables.tile, Tables.clip, Tables.lo, Tables.hi, Tables.first, Routing.pyDiv]
    rfl

/-- The weight scales as the region finds them: the argument with a unit axis put in. -/
theorem V_scale (c : Dev nD) : V m c main_v74
    = broadcastInDim S16x1x5120 ![0, 2] bcast_S16x5120_S16x1x5120_0_2 (m ((c : Thread nD τ).loc main_arg3)) := by
  unfold V
  after_reads_simp

/-! ## The tables' words at a grid point -/

/-- Point `i` of the grid reads each table's word `i`. -/
theorem off_eq (i : grid0.Coords) : (k0_off1 i) = ![(i 0).val] := by
  unfold k0_off1
  funext a
  match a with
  | ⟨0, _⟩ =>
    have hi : (i 0).val < 48 := (i 0).isLt
    show (BitVec.ofNat 32 (i 0).val).toNat = (i 0).val
    rw [BitVec.toNat_ofNat, Nat.mod_eq_of_lt (by omega)]

theorem emb_eq (i : grid0.Coords) (h : ∀ a, (k0_off1 i) a + S1.size a ≤ S48.size a) (x : S1.Idx) :
    (Rect.unit (s := S48) (k0_off1 i) S1.size h).emb x = ValueIdx.ix1 (⟨(i 0).val, (i 0).isLt⟩ : Fin 48) := by
  funext a
  match a with
  | ⟨0, _⟩ =>
    refine Fin.ext ?_
    have hx : (x 0).val = 0 := by have := (x 0).isLt; simp at this; omega
    show k0_off1 i 0 + 1 * (x 0).val = (i 0).val
    rw [off_eq, hx]; rfl

/-- The item of point `i`. -/
abbrev pt (i : grid0.Coords) : Fin 48 := ⟨(i 0).val, (i 0).isLt⟩

section Maps
variable {f : ℕ → ℕ} (h : Tables.Holds (sizes m 0) f) (hs : Tables.P f 16 ≤ 16384)
include h hs

/-- The group table's word at a point. -/
theorem word_grp (i : grid0.Coords) : (tbl m).at 0 (Rect.unit (s := S48) (k0_off1 i) S1.size (k0_off1_inb i)) numel1_S1 = BitVec.ofNat 32 (Tables.G (sizes m 0) (pt i)) := by
  show V m 0 main_v26 ((Rect.unit (s := S48) (k0_off1 i) S1.size (k0_off1_inb i)).emb _) = _
  rw [V_grp]
  refine (congrArg (Tables.grp (sizes m 0)) (emb_eq i _ _)).trans ?_
  exact Tables.grp_word (pt i)
/-- The tile table's word at a point. -/
theorem word_tile (i : grid0.Coords) : (tbl m).at 1 (Rect.unit (s := S48) (k0_off1 i) S1.size (k0_off1_inb i)) numel1_S1 = BitVec.ofNat 32 (Tables.tileN (sizes m 0) f (pt i)) := by
  show V m 0 main_v44 ((Rect.unit (s := S48) (k0_off1 i) S1.size (k0_off1_inb i)).emb _) = _
  rw [V_tile]
  refine (congrArg (Tables.tile (sizes m 0)) (emb_eq i _ _)).trans ?_
  exact Tables.tile_word h hs (pt i)

/-- The input rows' block index at a point. -/
theorem map0 (i : grid0.Coords) : cc0_transform_0 k0_off1_inb numel1_S1 (tbl m) i = ![Tables.tileN (sizes m 0) f (pt i), 0] := by
  have hw := word_tile m h hs i
  have ht := Tables.tileN_lt h hs (pt i)
  have e : ((tbl m).at 1 (Rect.unit (s := S48) (k0_off1 i) S1.size (k0_off1_inb i)) numel1_S1).toNat = Tables.tileN (sizes m 0) f (pt i) := by
    rw [hw, BitVec.toNat_ofNat, Nat.mod_eq_of_lt (by omega)]
  exact congrArg (fun n => (![n, 0] : Fin 2 → Nat)) e
/-- The packed weights' block index at a point. -/
theorem map1 (i : grid0.Coords) : cc0_transform_1 k0_off1_inb numel1_S1 (tbl m) i = ![Tables.G (sizes m 0) (pt i), 0, 0] := by
  have hw := word_grp m h hs i
  have ht := Tables.G_lt h hs (pt i)
  have e : ((tbl m).at 0 (Rect.unit (s := S48) (k0_off1 i) S1.size (k0_off1_inb i)) numel1_S1).toNat = Tables.G (sizes m 0) (pt i) := by
    rw [hw, BitVec.toNat_ofNat, Nat.mod_eq_of_lt (by omega)]
  exact congrArg (fun n => (![n, 0, 0] : Fin 3 → Nat)) e
/-- The weight scales' block index at a point. -/
theorem map2 (i : grid0.Coords) : cc0_transform_2 k0_off1_inb numel1_S1 (tbl m) i = ![Tables.G (sizes m 0) (pt i), 0, 0] :=
  map1 m h hs i
/-- The output rows' block index at a point. -/
theorem map3 (i : grid0.Coords) : cc0_transform_3 k0_off1_inb numel1_S1 (tbl m) i = ![Tables.tileN (sizes m 0) f (pt i), 0] :=
  map0 m h hs i

end Maps

/-! The blocks at each row or expert of a table lie in their arrays and start and end on words. -/

theorem k0' : ∀ n : Fin 32, ∃ h : (∀ a, ((![n.val, 0] : Fin 2 → Nat) a + 1) * S512x1024.size a ≤ S16384x1024.size a), EltTy.bits .bf16 = 32 ∨ (Rect.block (s := S16384x1024) S512x1024.size ![n.val, 0] h).WholeWords (EltTy.packing .bf16) := by
  decide +kernel
theorem k0 (n : ℕ) (hn : n < 32) : ∃ h : (∀ a, ((![n, 0] : Fin 2 → Nat) a + 1) * S512x1024.size a ≤ S16384x1024.size a), EltTy.bits .bf16 = 32 ∨ (Rect.block (s := S16384x1024) S512x1024.size ![n, 0] h).WholeWords (EltTy.packing .bf16) := k0' ⟨n, hn⟩
theorem k1' : ∀ n : Fin 16, ∃ h : (∀ a, ((![n.val, 0, 0] : Fin 3 → Nat) a + 1) * S1x1024x2560.size a ≤ S16x1024x2560.size a), EltTy.bits .i8 = 32 ∨ (Rect.block (s := S16x1024x2560) S1x1024x2560.size ![n.val, 0, 0] h).WholeWords (EltTy.packing .i8) := by
  decide +kernel
theorem k1 (n : ℕ) (hn : n < 16) : ∃ h : (∀ a, ((![n, 0, 0] : Fin 3 → Nat) a + 1) * S1x1024x2560.size a ≤ S16x1024x2560.size a), EltTy.bits .i8 = 32 ∨ (Rect.block (s := S16x1024x2560) S1x1024x2560.size ![n, 0, 0] h).WholeWords (EltTy.packing .i8) := k1' ⟨n, hn⟩
theorem k2' : ∀ n : Fin 16, ∃ h : (∀ a, ((![n.val, 0, 0] : Fin 3 → Nat) a + 1) * S1x1x5120.size a ≤ S16x1x5120.size a), EltTy.bits .f32 = 32 ∨ (Rect.block (s := S16x1x5120) S1x1x5120.size ![n.val, 0, 0] h).WholeWords (EltTy.packing .f32) := by
  decide +kernel
theorem k2 (n : ℕ) (hn : n < 16) : ∃ h : (∀ a, ((![n, 0, 0] : Fin 3 → Nat) a + 1) * S1x1x5120.size a ≤ S16x1x5120.size a), EltTy.bits .f32 = 32 ∨ (Rect.block (s := S16x1x5120) S1x1x5120.size ![n, 0, 0] h).WholeWords (EltTy.packing .f32) := k2' ⟨n, hn⟩
theorem k3' : ∀ n : Fin 32, ∃ h : (∀ a, ((![n.val, 0] : Fin 2 → Nat) a + 1) * S512x5120.size a ≤ S16384x5120.size a), EltTy.bits .bf16 = 32 ∨ (Rect.block (s := S16384x5120) S512x5120.size ![n.val, 0] h).WholeWords (EltTy.packing .bf16) := by
  decide +kernel
theorem k3 (n : ℕ) (hn : n < 32) : ∃ h : (∀ a, ((![n, 0] : Fin 2 → Nat) a + 1) * S512x5120.size a ≤ S16384x5120.size a), EltTy.bits .bf16 = 32 ∨ (Rect.block (s := S16384x5120) S512x5120.size ![n, 0] h).WholeWords (EltTy.packing .bf16) := k3' ⟨n, hn⟩

variable {m} in
/-- THE SIDE CONDITION OF THE TABLES: at group sizes that fit the rows, each block is inside its array. -/
theorem ok_of_fits {f : ℕ → ℕ} (h : Tables.Holds (sizes m 0) f) (hs : Tables.P f 16 ≤ 16384) : Ok m := by
  have e0 : tbl m 0 = Tables.grp (sizes m 0) := V_grp m 0
  have e1 : tbl m 1 = Tables.tile (sizes m 0) := V_tile m 0
  have w0 := fun i : grid0.Coords => map0 m h hs i
  have w1 := fun i : grid0.Coords => map1 m h hs i
  have w2 := fun i : grid0.Coords => map2 m h hs i
  have w3 := fun i : grid0.Coords => map3 m h hs i
  unfold Ok ok0
  refine ⟨fun i => ?_, fun i => ?_, fun i => ?_, fun i => ?_⟩
  · rw [w0 i]; exact k0 _ (Tables.tileN_lt h hs (pt i))
  · rw [w1 i]; exact k1 _ (Tables.G_lt h hs (pt i))
  · rw [w2 i]; exact k2 _ (Tables.G_lt h hs (pt i))
  · rw [w3 i]; exact k3 _ (Tables.tileN_lt h hs (pt i))

end Cert.KernelIdeal.Run
-- ==== Proof.KernelIdealBody.lean ====
module

public import proofs.«01_k».proof.Proof.KernelIdealEntry
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple on whole staging memrefs: the inputs' buffers and the tables are handed back as they were, the
    output's buffer and the two scratch buffers at some contents. -/
theorem sound_kernel (c : Dev nD) (E : Set ℕ) (i : grid0.Coords) (arg6 : Memref sig .tc .vmem S512x1024 .bf16) (harg6 : arg6.IsWhole) (arg7 : Memref sig .tc .vmem S1x1024x2560 .i8) (harg7 : arg7.IsWhole) (arg8 : Memref sig .tc .vmem S1x1x5120 .f32) (harg8 : arg8.IsWhole) (arg9 : Memref sig .tc .vmem S512x5120 .bf16) (harg9 : arg9.IsWhole) (arg10 : Memref sig .tc .vmem S512x1024 .bf16) (harg10 : arg10.IsWhole) (arg11 : Memref sig .tc .vmem S512x128 .f32) (harg11 : arg11.IsWhole)
    (x0 : Vec F S512x1024 .bf16) (x1 : Vec F S1x1024x2560 .i8) (x2 : Vec F S1x1x5120 .f32)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (K : PUnit → sProp 𝕄) :
    iprop(owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d) ∗ (∃ d, owns (c : Thread nD τ) arg11 fullShare d) ∗ tbPt0 c tbM0_0 xt0 ∗ tbPt0 c tbM0_1 xt1 ∗ tbPt0 c tbM0_2 xt2 ∗ tbPt0 c tbM0_3 xt3 ∗ tbPt0 c tbM0_4 xt4
        ∗ (iprop(owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d) ∗ (∃ d, owns (c : Thread nD τ) arg11 fullShare d) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
      ⊢ wp frame (wpE (defs₀ (F := F)) Variants.none c none) E (cc0_grouped_matmul i tbM0_0 htbM0_0 tbM0_1 htbM0_1 tbM0_2 htbM0_2 tbM0_3 htbM0_3 tbM0_4 htbM0_4 arg6 harg6 arg7 harg7 arg8 harg8 arg9 harg9 arg10 harg10 arg11 harg11) K := by
  simp only [cc0_grouped_matmul_eq_skeleton]; unfold cc0_grouped_matmul_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, HT0, HT1, HT2, HT3, HT4, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [HT0]; · iexact HT0
  isplitl [HT1]; · iexact HT1
  isplitl [HT2]; · iexact HT2
  isplitl [HT3]; · iexact HT3
  iexact HT4

/-! ## The pipeline's proof data -/

/-- What is held between points: the two scratch buffers at some contents, the generator register, and the tables. -/
def Phi (c : Dev nD) : sProp 𝕄 :=
  iprop((∃ d, owns (c : Thread nD τ) (Memref.whole cc0_scratch0) fullShare d) ∗ (∃ d, owns (c : Thread nD τ) (Memref.whole cc0_scratch1) fullShare d)
    ∗ (∃ r, prngReg c r) ∗ tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4))

/-- It is the region's scoped buffers, the register and the tables. -/
theorem Phi_eq (c : Dev nD) : (Phi m c : sProp 𝕄) = iprop(Pipeline.ΦA spec0 c ∗ Pipeline.ΦT pre0 (tbl m) c) := by
  rw [PhiT0_eq]
  unfold Phi Pipeline.ΦA
  rw [scopedRest0_eq]
  simp only [owns_whole]
  have h₁ : ∀ A B C D : sProp 𝕄, iprop(A ∗ B ∗ C ∗ D) ⊢ iprop(((A ∗ B) ∗ C) ∗ D) := fun A B C D => by
    iintro ⟨A, B, C, D⟩
    isplitl [A B C]
    · isplitl [A B]
      · isplitl [A]; · iexact A
        iexact B
      iexact C
    iexact D
  have h₂ : ∀ A B C D : sProp 𝕄, iprop(((A ∗ B) ∗ C) ∗ D) ⊢ iprop(A ∗ B ∗ C ∗ D) := fun A B C D => by
    iintro ⟨⟨⟨A, B⟩, C⟩, D⟩
    isplitl [A]; · iexact A
    isplitl [B]; · iexact B
    isplitl [C]; · iexact C
    iexact D
  exact BI.equiv_iff.mp ⟨h₁ _ _ _ _, h₂ _ _ _ _⟩

/-- The proof data of the one pipeline on core `c`, for the frame: the arrays as the region finds them (`V`), an
    input's buffer left as found, the output's at anything, and between points the scratch at anything beside the tables. -/
def rdat (hO : Ok m) (c : Dev nD) : Pipeline.RDat τ (Elt F) Unit ℕ (UR sig nD τ) ℕ (cfgM m hO) c where
  A w := V m c (Pipeline.arrRef spec0 w)
  after w _ Y X := w ≠ 3 → X = Y
  Φ _ := Phi m c
  q _ := fullShare
  owed _ := 0

/-- The body table's row at point `t`. -/
theorem defs₀_row (hO : Ok m) (t : Fin (cfgM m hO).N) :
    defs₀ (F := F) .tc (cfgM m hO).body ((cfgM m hO).bodyArgs t ((cfgM m hO).slots t))
      = cc0_grouped_matmul (grid0.coords t) tbM0_0 htbM0_0 tbM0_1 htbM0_1 tbM0_2 htbM0_2 tbM0_3 htbM0_3 tbM0_4 htbM0_4
          (spec0_0.stage ((cfgM m hO).slots t 0)) (hstage0_0 (((cfgM m hO).slots t 0).cast nbuf0_0))
          (spec0_1.stage ((cfgM m hO).slots t 1)) (hstage0_1 (((cfgM m hO).slots t 1).cast nbuf0_1))
          (spec0_2.stage ((cfgM m hO).slots t 2)) (hstage0_2 (((cfgM m hO).slots t 2).cast nbuf0_2))
          (spec0_3.stage ((cfgM m hO).slots t 3)) (hstage0_3 (((cfgM m hO).slots t 3).cast nbuf0_3))
          (Memref.whole cc0_scratch0) (Memref.isWhole_whole _) (Memref.whole cc0_scratch1) (Memref.isWhole_whole _) := by
  unfold defs₀; rw [Defs.onTc_tc]

/-- The body at any point: the triple, the register passing through unread. -/
theorem sound_body (hO : Ok m) (c : Dev nD) (t : Fin (cfgM m hO).N) (O : sProp 𝕄)
    (Y0 : Vec F S512x1024 .bf16) (Y1 : Vec F S1x1024x2560 .i8) (Y2 : Vec F S1x1x5120 .f32) (Y3 : Vec F S512x5120 .bf16) :
    iprop(Phi m c ∗ O ∗ owns (c : Thread nD τ) (spec0_0.stage ((cfgM m hO).slots t 0)) fullShare Y0 ∗ owns (c : Thread nD τ) (spec0_1.stage ((cfgM m hO).slots t 1)) fullShare Y1
        ∗ owns (c : Thread nD τ) (spec0_2.stage ((cfgM m hO).slots t 2)) fullShare Y2 ∗ owns (c : Thread nD τ) (spec0_3.stage ((cfgM m hO).slots t 3)) fullShare Y3)
      ⊢ wp frame (wpE (defs₀ (F := F)) Variants.none c none) Set.univ (defs₀ (F := F) .tc (cfgM m hO).body ((cfgM m hO).bodyArgs t ((cfgM m hO).slots t)))
          (fun _ => iprop(Phi m c ∗ O ∗ (∃ X, ⌜(0 : Fin 4) ≠ 3 → X = Y0⌝ ∗ owns (c : Thread nD τ) (spec0_0.stage ((cfgM m hO).slots t 0)) fullShare X)
            ∗ (∃ X, ⌜(1 : Fin 4) ≠ 3 → X = Y1⌝ ∗ owns (c : Thread nD τ) (spec0_1.stage ((cfgM m hO).slots t 1)) fullShare X)
            ∗ (∃ X, ⌜(2 : Fin 4) ≠ 3 → X = Y2⌝ ∗ owns (c : Thread nD τ) (spec0_2.stage ((cfgM m hO).slots t 2)) fullShare X)
            ∗ (∃ X, ⌜(3 : Fin 4) ≠ 3 → X = Y3⌝ ∗ owns (c : Thread nD τ) (spec0_3.stage ((cfgM m hO).slots t 3)) fullShare X))) := by
  rw [defs₀_row]
  unfold Phi
  iintro ⟨⟨S0, S1, R, T0, T1, T2, T3, T4⟩, Ho, H0, H1, H2, H3⟩
  iapply (sound_kernel c Set.univ _ _ _ _ _ _ _ _ _ _ _ _ _ Y0 Y1 Y2 (tbl m 0) (tbl m 1) (tbl m 2) (tbl m 3) (tbl m 4) _)
  isplitl [H0]; · iexact H0
  isplitl [H1]; · iexact H1
  isplitl [H2]; · iexact H2
  isplitl [H3]; · iexists _; iexact H3
  isplitl [S0]; · iexact S0
  isplitl [S1]; · iexact S1
  isplitl [T0]; · iexact T0
  isplitl [T1]; · iexact T1
  isplitl [T2]; · iexact T2
  isplitl [T3]; · iexact T3
  isplitl [T4]; · iexact T4
  iintro ⟨H0, H1, H2, ⟨%d, H3⟩, S0, S1, T0, T1, T2, T3, T4⟩
  isplitl [S0 S1 R T0 T1 T2 T3 T4]
  · isplitl [S0]; · iexact S0
    isplitl [S1]; · iexact S1
    isplitl [R]; · iexact R
    isplitl [T0]; · iexact T0
    isplitl [T1]; · iexact T1
    isplitl [T2]; · iexact T2
    isplitl [T3]; · iexact T3
    iexact T4
  isplitl [Ho]; · iexact Ho
  isplitl [H0]; · iexists _; isplitr; swap; · iexact H0
                  ipureintro; exact fun _ => rfl
  isplitl [H1]; · iexists _; isplitr; swap; · iexact H1
                  ipureintro; exact fun _ => rfl
  isplitl [H2]; · iexists _; isplitr; swap; · iexact H2
                  ipureintro; exact fun _ => rfl
  iexists d; isplitr; swap; · iexact H3
  ipureintro; exact fun h => absurd rfl h

/-- The library's body obligation, at every point. -/
theorem body_obligation (hO : Ok m) (c : Dev nD) : (rdat m hO c).BodyObligation (defs₀ (F := F)) Variants.none () Set.univ := fun t Y _ => by
  rw [bigSep_W0, bigSep_W0]
  exact triple_restated (sound_body m hO c t ((rdat m hO c).owesAt () t.castSucc) (Y 0) (Y 1) (Y 2) (Y 3)) rfl .rfl fun _ => .rfl

set_option backward.isDefEq.respectTransparency.types false in
set_option maxHeartbeats 800000 in
/-- THE LAUNCH: every weakly fair execution of @main terminates with the pipeline's arrays in the data's relation, every
    other buffer as the region found it, and every semaphore counter at zero. -/
theorem run_main_quiescent (hO : Ok m) : θ_run defs (onTc (τ := τ) (main (F := F))) (s₀ m ρ)
    (fun r => (Pipeline.RDat.FramePost ((Pipeline.pin pcfgs fun _ => adm m hO) 0) (rdat m hO) (V m)) r ∧ r.2.sem = fun _ => 0) :=
  Pipeline.RDat.θ_run_frameP (Q' := _) pcfgs (fun _ => adm m hO) (0 : Fin 1) launch0 defs₀ Variants.none (rdat m hO) m ρ main
    (hbody := body_obligation m hO) (hshare := fun c w => (rdat m hO c).share_full (fun _ => rfl) w)
    (howed := fun _ _ => rfl) (V := V m) (hmain := hmain m Variants.none) (hA := fun _ _ => rfl) (hpf := V_pre m) (hΦ := fun c _ => Phi_eq m c)

/-- THE FRAME, when the tables keep every block inside its array: every execution of @main terminates with the argument
    arrays unchanged and every semaphore counter at zero. -/
theorem frame_of_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ hO (rdat m hO) (fun _ _ => rfl) ((θ_run defs _ _).mono (fun _ h => h.1) (run_main_quiescent m ρ hO)))
    ((θ_run defs _ _).mono (fun _ h => h.2) (run_main_quiescent m ρ hO))

end Cert.KernelIdeal.Run
-- ==== Proof.Item.lean ====
module

public import proofs.«01_k».proof.Proof.KernelIdealBody
public import proofs.«01_k».proof.Proof.Gen.KernelIdeal.Skeleton
public import Idealize.ShloMosaic.Lib.Pipeline.FrameBody
public import Idealize.ShloMosaic.Lib.Claim
public import Idealize.ShloMosaic.Lib.WritesUnit
public import Idealize.ShloMosaic.Lib.ValueIdx
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one item's body computes, as functions of what it reads -/

/-- The quantised rows of an input block. -/
def codesOf (x0 : Vec F S512x1024 .bf16) : Vec F S512x1024 .bf16 :=
  k0_pay2 (k0_pay5 x0) (k0_pay11 (k0_pay6 x0) (k0_pay7 x0) (k0_pay8 x0) (k0_pay9 x0))
    (k0_pay12 (k0_pay6 x0) (k0_pay7 x0) (k0_pay8 x0) (k0_pay9 x0)) 0#32

/-- The rows' scales, along every lane. -/
def scaleOf (x0 : Vec F S512x1024 .bf16) : Vec F S512x128 .f32 :=
  k0_pay3 (k0_pay11 (k0_pay6 x0) (k0_pay7 x0) (k0_pay8 x0) (k0_pay9 x0))
    (k0_pay12 (k0_pay6 x0) (k0_pay7 x0) (k0_pay8 x0) (k0_pay9 x0)) 0#32

/-- The weights in the low nibbles of a column block of packed bytes. -/
def lowNib (w : Vec F S1x1024x512 .i8) : FVec F S1024x512 .bf16 :=
  mulf (sitofp .bf16 (bitcast S1024x512 8 (andi (shli (k0_pay14 w) (broadcast S256x512 4#32)) (broadcast S256x512 4042322160#32)) bitcasts_S256x512_w32_S1024x512_w8))
    (broadcast S1024x512 (Scalar.ofBits .bf16 0x3D80#16))

/-- The weights in the high nibbles. -/
def highNib (w : Vec F S1x1024x512 .i8) : FVec F S1024x512 .bf16 :=
  mulf (sitofp .bf16 (bitcast S1024x512 8 (andi (k0_pay14 w) (broadcast S256x512 4042322160#32)) bitcasts_S256x512_w32_S1024x512_w8))
    (broadcast S1024x512 (Scalar.ofBits .bf16 0x3D80#16))

/-- A column block of the output: under the mask the scaled product rounded, elsewhere what was there. -/
def blockOf (mask : IVec S512x512 1) (xs : Vec F S512x1 .f32) (W : FVec F S1024x512 .bf16) (codes : Vec F S512x1024 .bf16)
    (sc : Vec F S1x1x512 .f32) (old : Vec F S512x512 .bf16) : FVec F S512x512 .bf16 :=
  select mask (truncf .bf16 (mulf (mulf (matmul dot_S512x1024_S1024x512_S512x512_1_0_0_1_n_n none codes W (constant S512x512 .f32 0x00000000#32))
      (broadcastTo S512x512 xs broadcasts_S512x1_S512x512)) (broadcastTo S512x512 (shapeCast S1x512 sc shapeCasts_S1x1x512_S1x512) broadcasts_S1x512_S512x512)) bitsLt_bf16_f32)
    (shapeCast S512x512 old shapeCasts_S512x512_S512x512)

theorem inb_w (k : Fin 5) : ∀ a : Fin 3, (![0, 0, 512 * k.val] : Fin 3 → ℕ) a + S1x1024x512.size a ≤ S1x1024x2560.size a := by
  revert k; decide
theorem inb_s (h : Fin 2) (k : Fin 5) : ∀ a : Fin 3, (![0, 0, 2560 * h.val + 512 * k.val] : Fin 3 → ℕ) a + S1x1x512.size a ≤ S1x1x5120.size a := by
  revert h k; decide
theorem inb_o (h : Fin 2) (k : Fin 5) : ∀ a : Fin 2, (![0, 2560 * h.val + 512 * k.val] : Fin 2 → ℕ) a + S512x512.size a ≤ S512x5120.size a := by
  revert h k; decide

/-- Column block `k` of the packed bytes. -/
def wsl (k : Fin 5) (x1 : Vec F S1x1024x2560 .i8) : Vec F S1x1024x512 .i8 :=
  View.ld x1 (Rect.unit (s := S1x1024x2560) ![0, 0, 512 * k.val] S1x1024x512.size (inb_w k))
/-- Column block `k` of half `h` of the weight scales. -/
def ssl (h : Fin 2) (k : Fin 5) (x2 : Vec F S1x1x5120 .f32) : Vec F S1x1x512 .f32 :=
  View.ld x2 (Rect.unit (s := S1x1x5120) ![0, 0, 2560 * h.val + 512 * k.val] S1x1x512.size (inb_s h k))
/-- Column block `k` of half `h` of the output block. -/
def osl (h : Fin 2) (k : Fin 5) (x3 : Vec F S512x5120 .bf16) : Vec F S512x512 .bf16 :=
  View.ld x3 (Rect.unit (s := S512x5120) ![0, 2560 * h.val + 512 * k.val] S512x512.size (inb_o h k))
/-- The first lane of the rows' scales. -/
def lane0 (x5 : Vec F S512x128 .f32) : Vec F S512x1 .f32 :=
  View.ld x5 (Rect.unit (s := S512x128) ![0, 0] S512x1.size inb_S512x128_S512x1_0_0)
/-- The nibbles of half `h`. -/
def nib (h : Fin 2) (w : Vec F S1x1024x512 .i8) : FVec F S1024x512 .bf16 := (![lowNib w, highNib w] : Fin 2 → FVec F S1024x512 .bf16) h

/-- The item's word says that its row tile is new. -/
abbrev Fresh (w : BitVec 32) : Prop := Scalar.cmpi .ne (Scalar.extui (Scalar.cmpi .eq w 1#32)) 0#32 = 1#1

/-- What an item leaves in its output block `X` of the block `Y` it found: column block by column block. -/
def OutRel (lo hi : BitVec 32) (xs : Vec F S512x1 .f32) (codes : Vec F S512x1024 .bf16) (x1 : Vec F S1x1024x2560 .i8) (x2 : Vec F S1x1x5120 .f32)
    (Y X : Vec F S512x5120 .bf16) : Prop :=
  if k0_cond2 lo hi = 1#1 then
    ∀ (h : Fin 2) (k : Fin 5), osl h k X = blockOf (k0_pay13 (F := F) lo hi) xs (nib h (wsl k x1)) codes (ssl h k x2) (osl h k Y)
  else X = Y

theorem ne_mem (p : S512x512.Idx) (o o' : ℕ) (inb : ∀ a : Fin 2, (![0, o] : Fin 2 → ℕ) a + S512x512.size a ≤ S512x5120.size a) (h : o + 512 ≤ o' ∨ o' + 512 ≤ o) :
    ((((Rect.unit (s := S512x5120) ![0, o] S512x512.size inb).emb p) 1).val < (![0, o'] : Fin 2 → ℕ) 1
      ∨ (![0, o'] : Fin 2 → ℕ) 1 + S512x512.size 1 ≤ (((Rect.unit (s := S512x5120) ![0, o] S512x512.size inb).emb p) 1).val) := by
  have hp : (p 1).val < 512 := (p 1).isLt
  have e : ((((Rect.unit (s := S512x5120) ![0, o] S512x512.size inb).emb p) 1).val) = o + 1 * (p 1).val := rfl
  show _ < o' ∨ o' + 512 ≤ _
  omega

section Ten
variable {κ : Kind} {sp : Space} (v : View sig κ sp S512x5120 .bf16) (f : v.ty.Contents (Elt F)) (w0 w1 w2 w3 w4 w5 w6 w7 w8 w9 : S512x512.Idx → Elt F .bf16)

/-- The ten stores, the last first. -/
abbrev ten : List (View.Piece (Elt F) S512x5120 .bf16) :=
  [⟨Rect.unit (s := S512x5120) ![0, 4608] S512x512.size inb_S512x5120_S512x512_0_4608, w9⟩,
    ⟨Rect.unit (s := S512x5120) ![0, 2048] S512x512.size inb_S512x5120_S512x512_0_2048, w8⟩,
    ⟨Rect.unit (s := S512x5120) ![0, 4096] S512x512.size inb_S512x5120_S512x512_0_4096, w7⟩,
    ⟨Rect.unit (s := S512x5120) ![0, 1536] S512x512.size inb_S512x5120_S512x512_0_1536, w6⟩,
    ⟨Rect.unit (s := S512x5120) ![0, 3584] S512x512.size inb_S512x5120_S512x512_0_3584, w5⟩,
    ⟨Rect.unit (s := S512x5120) ![0, 1024] S512x512.size inb_S512x5120_S512x512_0_1024, w4⟩,
    ⟨Rect.unit (s := S512x5120) ![0, 3072] S512x512.size inb_S512x5120_S512x512_0_3072, w3⟩,
    ⟨Rect.unit (s := S512x5120) ![0, 512] S512x512.size inb_S512x5120_S512x512_0_512, w2⟩,
    ⟨Rect.unit (s := S512x5120) ![0, 2560] S512x512.size inb_S512x5120_S512x512_0_2560, w1⟩,
    ⟨Rect.unit (s := S512x5120) ![0, 0] S512x512.size inb_S512x5120_S512x512_0_0, w0⟩]

theorem ten_0 (p : S512x512.Idx) : v.read (Elt F) (v.writes (Elt F) f (ten w0 w1 w2 w3 w4 w5 w6 w7 w8 w9)) ((Rect.unit (s := S512x5120) ![0, 0] S512x512.size inb_S512x5120_S512x512_0_0).emb p) = w0 p := by
  refine (View.read_writes_cons_unit_of_not_mem v f inb_S512x5120_S512x512_0_4608 _ _ _ rfl 1 (ne_mem p 0 4608 _ (by decide))).trans ?_
  refine (View.read_writes_cons_unit_of_not_mem v f inb_S512x5120_S512x512_0_2048 _ _ _ rfl 1 (ne_mem p 0 2048 _ (by decide))).trans ?_
  refine (View.read_writes_cons_unit_of_not_mem v f inb_S512x5120_S512x512_0_4096 _ _ _ rfl 1 (ne_mem p 0 4096 _ (by decide))).trans ?_
  refine (View.read_writes_cons_unit_of_not_mem v f inb_S512x5120_S512x512_0_1536 _ _ _ rfl 1 (ne_mem p 0 1536 _ (by decide))).trans ?_
  refine (View.read_writes_cons_unit_of_not_mem v f inb_S512x5120_S512x512_0_3584 _ _ _ rfl 1 (ne_mem p 0 3584 _ (by decide))).trans ?_
  refine (View.read_writes_cons_unit_of_not_mem v f inb_S512x5120_S512x512_0_1024 _ _ _ rfl 1 (ne_mem p 0 1024 _ (by decide))).trans ?_
  refine (View.read_writes_cons_unit_of_not_mem v f inb_S512x5120_S512x512_0_3072 _ _ _ rfl 1 (ne_mem p 0 3072 _ (by decide))).trans ?_
  refine (View.read_writes_cons_unit_of_not_mem v f inb_S512x5120_S512x512_0_512 _ _ _ rfl 1 (ne_mem p 0 512 _ (by decide))).trans ?_
  refine (View.read_writes_cons_unit_of_not_mem v f inb_S512x5120_S512x512_0_2560 _ _ _ rfl 1 (ne_mem p 0 2560 _ (by decide))).trans ?_
  exact View.read_writes_cons_emb v f (Rect.unit (s := S512x5120) ![0, 0] S512x512.size inb_S512x5120_S512x512_0_0) w0 _ p

theorem ten_2560 (p : S512x512.Idx) : v.read (Elt F) (v.writes (Elt F) f (ten w0 w1 w2 w3 w4 w5 w6 w7 w8 w9)) ((Rect.unit (s := S512x5120) ![0, 2560] S512x512.size inb_S512x5120_S512x512_0_2560).emb p) = w1 p := by
  refine (View.read_writes_cons_unit_of_not_mem v f inb_S512x5120_S512x512_0_4608 _ _ _ rfl 1 (ne_mem p 2560 4608 _ (by decide))).trans ?_
  refine (View.read_writes_cons_unit_of_not_mem v f inb_S512x5120_S512x512_0_2048 _ _ _ rfl 1 (ne_mem p 2560 2048 _ (by decide))).trans ?_
  refine (View.read_writes_cons_unit_of_not_mem v f inb_S512x5120_S512x512_0_4096 _ _ _ rfl 1 (ne_mem p 2560 4096 _ (by decide))).trans ?_
  refine (View.read_writes_cons_unit_of_not_mem v f inb_S512x5120_S512x512_0_1536 _ _ _ rfl 1 (ne_mem p 2560 1536 _ (by decide))).trans ?_
  refine (View.read_writes_cons_unit_of_not_mem v f inb_S512x5120_S512x512_0_3584 _ _ _ rfl 1 (ne_mem p 2560 3584 _ (by decide))).trans ?_
  refine (View.read_writes_cons_unit_of_not_mem v f inb_S512x5120_S512x512_0_1024 _ _ _ rfl 1 (ne_mem p 2560 1024 _ (by decide))).trans ?_
  refine (View.read_writes_cons_unit_of_not_mem v f inb_S512x5120_S512x512_0_3072 _ _ _ rfl 1 (ne_mem p 2560 3072 _ (by decide))).trans ?_
  refine (View.read_writes_cons_unit_of_not_mem v f inb_S512x5120_S512x512_0_512 _ _ _ rfl 1 (ne_mem p 2560 512 _ (by decide))).trans ?_
  exact View.read_writes_cons_emb v f (Rect.unit (s := S512x5120) ![0, 2560] S512x512.size inb_S512x5120_S512x512_0_2560) w1 _ p

theorem ten_512 (p : S512x512.Idx) : v.read (Elt F) (v.writes (Elt F) f (ten w0 w1 w2 w3 w4 w5 w6 w7 w8 w9)) ((Rect.unit (s := S512x5120) ![0, 512] S512x512.size inb_S512x5120_S512x512_0_512).emb p) = w2 p := by
  refine (View.read_writes_cons_unit_of_not_mem v f inb_S512x5120_S512x512_0_4608 _ _ _ rfl 1 (ne_mem p 512 4608 _ (by decide))).trans ?_
  refine (View.read_writes_cons_unit_of_not_mem v f inb_S512x5120_S512x512_0_2048 _ _ _ rfl 1 (ne_mem p 512 2048 _ (by decide))).trans ?_
  refine (View.read_writes_cons_unit_of_not_mem v f inb_S512x5120_S512x512_0_4096 _ _ _ rfl 1 (ne_mem p 512 4096 _ (by decide))).trans ?_
  refine (View.read_writes_cons_unit_of_not_mem v f inb_S512x5120_S512x512_0_1536 _ _ _ rfl 1 (ne_mem p 512 1536 _ (by decide))).trans ?_
  refine (View.read_writes_cons_unit_of_not_mem v f inb_S512x5120_S512x512_0_3584 _ _ _ rfl 1 (ne_mem p 512 3584 _ (by decide))).trans ?_
  refine (View.read_writes_cons_unit_of_not_mem v f inb_S512x5120_S512x512_0_1024 _ _ _ rfl 1 (ne_mem p 512 1024 _ (by decide))).trans ?_
  refine (View.read_writes_cons_unit_of_not_mem v f inb_S512x5120_S512x512_0_3072 _ _ _ rfl 1 (ne_mem p 512 3072 _ (by decide))).trans ?_
  exact View.read_writes_cons_emb v f (Rect.unit (s := S512x5120) ![0, 512] S512x512.size inb_S512x5120_S512x512_0_512) w2 _ p

theorem ten_3072 (p : S512x512.Idx) : v.read (Elt F) (v.writes (Elt F) f (ten w0 w1 w2 w3 w4 w5 w6 w7 w8 w9)) ((Rect.unit (s := S512x5120) ![0, 3072] S512x512.size inb_S512x5120_S512x512_0_3072).emb p) = w3 p := by
  refine (View.read_writes_cons_unit_of_not_mem v f inb_S512x5120_S512x512_0_4608 _ _ _ rfl 1 (ne_mem p 3072 4608 _ (by decide))).trans ?_
  refine (View.read_writes_cons_unit_of_not_mem v f inb_S512x5120_S512x512_0_2048 _ _ _ rfl 1 (ne_mem p 3072 2048 _ (by decide))).trans ?_
  refine (View.read_writes_cons_unit_of_not_mem v f inb_S512x5120_S512x512_0_4096 _ _ _ rfl 1 (ne_mem p 3072 4096 _ (by decide))).trans ?_
  refine (View.read_writes_cons_unit_of_not_mem v f inb_S512x5120_S512x512_0_1536 _ _ _ rfl 1 (ne_mem p 3072 1536 _ (by decide))).trans ?_
  refine (View.read_writes_cons_unit_of_not_mem v f inb_S512x5120_S512x512_0_3584 _ _ _ rfl 1 (ne_mem p 3072 3584 _ (by decide))).trans ?_
  refine (View.read_writes_cons_unit_of_not_mem v f inb_S512x5120_S512x512_0_1024 _ _ _ rfl 1 (ne_mem p 3072 1024 _ (by decide))).trans ?_
  exact View.read_writes_cons_emb v f (Rect.unit (s := S512x5120) ![0, 3072] S512x512.size inb_S512x5120_S512x512_0_3072) w3 _ p

theorem ten_1024 (p : S512x512.Idx) : v.read (Elt F) (v.writes (Elt F) f (ten w0 w1 w2 w3 w4 w5 w6 w7 w8 w9)) ((Rect.unit (s := S512x5120) ![0, 1024] S512x512.size inb_S512x5120_S512x512_0_1024).emb p) = w4 p := by
  refine (View.read_writes_cons_unit_of_not_mem v f inb_S512x5120_S512x512_0_4608 _ _ _ rfl 1 (ne_mem p 1024 4608 _ (by decide))).trans ?_
  refine (View.read_writes_cons_unit_of_not_mem v f inb_S512x5120_S512x512_0_2048 _ _ _ rfl 1 (ne_mem p 1024 2048 _ (by decide))).trans ?_
  refine (View.read_writes_cons_unit_of_not_mem v f inb_S512x5120_S512x512_0_4096 _ _ _ rfl 1 (ne_mem p 1024 4096 _ (by decide))).trans ?_
  refine (View.read_writes_cons_unit_of_not_mem v f inb_S512x5120_S512x512_0_1536 _ _ _ rfl 1 (ne_mem p 1024 1536 _ (by decide))).trans ?_
  refine (View.read_writes_cons_unit_of_not_mem v f inb_S512x5120_S512x512_0_3584 _ _ _ rfl 1 (ne_mem p 1024 3584 _ (by decide))).trans ?_
  exact View.read_writes_cons_emb v f (Rect.unit (s := S512x5120) ![0, 1024] S512x512.size inb_S512x5120_S512x512_0_1024) w4 _ p

theorem ten_3584 (p : S512x512.Idx) : v.read (Elt F) (v.writes (Elt F) f (ten w0 w1 w2 w3 w4 w5 w6 w7 w8 w9)) ((Rect.unit (s := S512x5120) ![0, 3584] S512x512.size inb_S512x5120_S512x512_0_3584).emb p) = w5 p := by
  refine (View.read_writes_cons_unit_of_not_mem v f inb_S512x5120_S512x512_0_4608 _ _ _ rfl 1 (ne_mem p 3584 4608 _ (by decide))).trans ?_
  refine (View.read_writes_cons_unit_of_not_mem v f inb_S512x5120_S512x512_0_2048 _ _ _ rfl 1 (ne_mem p 3584 2048 _ (by decide))).trans ?_
  refine (View.read_writes_cons_unit_of_not_mem v f inb_S512x5120_S512x512_0_4096 _ _ _ rfl 1 (ne_mem p 3584 4096 _ (by decide))).trans ?_
  refine (View.read_writes_cons_unit_of_not_mem v f inb_S512x5120_S512x512_0_1536 _ _ _ rfl 1 (ne_mem p 3584 1536 _ (by decide))).trans ?_
  exact View.read_writes_cons_emb v f (Rect.unit (s := S512x5120) ![0, 3584] S512x512.size inb_S512x5120_S512x512_0_3584) w5 _ p

theorem ten_1536 (p : S512x512.Idx) : v.read (Elt F) (v.writes (Elt F) f (ten w0 w1 w2 w3 w4 w5 w6 w7 w8 w9)) ((Rect.unit (s := S512x5120) ![0, 1536] S512x512.size inb_S512x5120_S512x512_0_1536).emb p) = w6 p := by
  refine (View.read_writes_cons_unit_of_not_mem v f inb_S512x5120_S512x512_0_4608 _ _ _ rfl 1 (ne_mem p 1536 4608 _ (by decide))).trans ?_
  refine (View.read_writes_cons_unit_of_not_mem v f inb_S512x5120_S512x512_0_2048 _ _ _ rfl 1 (ne_mem p 1536 2048 _ (by decide))).trans ?_
  refine (View.read_writes_cons_unit_of_not_mem v f inb_S512x5120_S512x512_0_4096 _ _ _ rfl 1 (ne_mem p 1536 4096 _ (by decide))).trans ?_
  exact View.read_writes_cons_emb v f (Rect.unit (s := S512x5120) ![0, 1536] S512x512.size inb_S512x5120_S512x512_0_1536) w6 _ p

theorem ten_4096 (p : S512x512.Idx) : v.read (Elt F) (v.writes (Elt F) f (ten w0 w1 w2 w3 w4 w5 w6 w7 w8 w9)) ((Rect.unit (s := S512x5120) ![0, 4096] S512x512.size inb_S512x5120_S512x512_0_4096).emb p) = w7 p := by
  refine (View.read_writes_cons_unit_of_not_mem v f inb_S512x5120_S512x512_0_4608 _ _ _ rfl 1 (ne_mem p 4096 4608 _ (by decide))).trans ?_
  refine (View.read_writes_cons_unit_of_not_mem v f inb_S512x5120_S512x512_0_2048 _ _ _ rfl 1 (ne_mem p 4096 2048 _ (by decide))).trans ?_
  exact View.read_writes_cons_emb v f (Rect.unit (s := S512x5120) ![0, 4096] S512x512.size inb_S512x5120_S512x512_0_4096) w7 _ p

theorem ten_2048 (p : S512x512.Idx) : v.read (Elt F) (v.writes (Elt F) f (ten w0 w1 w2 w3 w4 w5 w6 w7 w8 w9)) ((Rect.unit (s := S512x5120) ![0, 2048] S512x512.size inb_S512x5120_S512x512_0_2048).emb p) = w8 p := by
  refine (View.read_writes_cons_unit_of_not_mem v f inb_S512x5120_S512x512_0_4608 _ _ _ rfl 1 (ne_mem p 2048 4608 _ (by decide))).trans ?_
  exact View.read_writes_cons_emb v f (Rect.unit (s := S512x5120) ![0, 2048] S512x512.size inb_S512x5120_S512x512_0_2048) w8 _ p

theorem ten_4608 (p : S512x512.Idx) : v.read (Elt F) (v.writes (Elt F) f (ten w0 w1 w2 w3 w4 w5 w6 w7 w8 w9)) ((Rect.unit (s := S512x5120) ![0, 4608] S512x512.size inb_S512x5120_S512x512_0_4608).emb p) = w9 p := by
  exact View.read_writes_cons_emb v f (Rect.unit (s := S512x5120) ![0, 4608] S512x512.size inb_S512x5120_S512x512_0_4608) w9 _ p

end Ten

section Pay
variable (v6 v8 : BitVec 32) (mk : IVec S512x512 1) (xs : Vec F S512x1 .f32) (w : Vec F S1x1024x512 .i8) (codes : Vec F S512x1024 .bf16)
  (sc : Vec F S1x1x512 .f32) (old : Vec F S512x512 .bf16)

theorem pay_0 : k0_pay15 v6 v8 xs w codes sc old = blockOf (k0_pay13 (F := F) v6 v8) xs (lowNib w) codes sc old := rfl
theorem pay_2560 : k0_pay17 mk xs (k0_pay16 w) codes sc old = blockOf mk xs (highNib w) codes sc old := rfl
theorem pay_512 : k0_pay21 mk (k0_pay20 xs w codes sc) old = blockOf mk xs (lowNib w) codes sc old := rfl
theorem pay_3072 : k0_pay22 mk xs (k0_pay19 w) codes sc old = blockOf mk xs (highNib w) codes sc old := rfl
theorem pay_1024 : k0_pay26 mk xs (k0_pay25 w codes) sc old = blockOf mk xs (lowNib w) codes sc old := rfl
theorem pay_3584 : k0_pay27 mk xs (k0_pay24 w) codes sc old = blockOf mk xs (highNib w) codes sc old := rfl
theorem pay_1536 : k0_pay30 mk xs (k0_pay29 w) codes sc old = blockOf mk xs (lowNib w) codes sc old := rfl
theorem pay_4096 : k0_pay31 mk xs (k0_pay28 w) codes sc old = blockOf mk xs (highNib w) codes sc old := rfl
theorem pay_2048 : k0_pay33 mk xs w codes sc old = blockOf mk xs (lowNib w) codes sc old := rfl
theorem pay_4608 : k0_pay4 mk (k0_pay34 xs w codes) sc old = blockOf mk xs (highNib w) codes sc old := rfl
end Pay

theorem read_dite {κ : Kind} {sp : Space} {s : Shape} {e : EltTy} (v : View sig κ sp s e) (p : Prop) [Decidable p] (f g : v.ty.Contents (Elt F)) :
    v.read (Elt F) (if h : p then f else g) = if p then v.read (Elt F) f else v.read (Elt F) g := by
  by_cases h : p <;> simp [h]

theorem read_whole {κ : Kind} {sp : Space} {s : Shape} {e : EltTy} (v : View sig κ sp s e) (f : v.ty.Contents (Elt F)) (off : Fin s.rank → ℕ) (hoff : off = fun _ => 0)
    (inb : ∀ a, off a + s.size a ≤ s.size a) (w : s.Idx → Elt F e) :
    v.read (Elt F) (v.writes (Elt F) f [⟨Rect.unit off s.size inb, w⟩]) = w :=
  funext fun y => View.read_writes_cons_unit_of_mem v f inb w [] y y hoff fun a => (Nat.zero_add _).symm

theorem ld_whole {s : Shape} {e : EltTy} (X : s.Idx → Elt F e) (off : Fin s.rank → ℕ) (hoff : off = fun _ => 0) (inb : ∀ a, off a + s.size a ≤ s.size a) :
    View.ld X (Rect.unit off s.size inb) = X := by
  subst hoff
  funext y
  refine congrArg X (funext fun a => Fin.ext ?_)
  show 0 + 1 * (y a).val = (y a).val
  omega

/-- The word of table 2 that point `i` loads. -/
def wd2 (c : Dev nD) (i : grid0.Coords) (xt : TbBuf0 (F := F) c tbM0_2) : BitVec 32 :=
  View.readAt (Elt F) tbM0_2.view (Rect.unit (s := S48) (k0_off1 i) ![1] (k0_off1_inb i)).toLoadRect xt (Shape.Idx.first (by show 0 < S1.numel; decide))
/-- The word of table 3 that point `i` loads. -/
def wd3 (c : Dev nD) (i : grid0.Coords) (xt : TbBuf0 (F := F) c tbM0_3) : BitVec 32 :=
  View.readAt (Elt F) tbM0_3.view (Rect.unit (s := S48) (k0_off1 i) ![1] (k0_off1_inb i)).toLoadRect xt (Shape.Idx.first (by show 0 < S1.numel; decide))
/-- The word of table 4 that point `i` loads. -/
def wd4 (c : Dev nD) (i : grid0.Coords) (xt : TbBuf0 (F := F) c tbM0_4) : BitVec 32 :=
  View.readAt (Elt F) tbM0_4.view (Rect.unit (s := S48) (k0_off1 i) ![1] (k0_off1_inb i)).toLoadRect xt (Shape.Idx.first (by show 0 < S1.numel; decide))

set_option maxHeartbeats 1000000 in
/-- The body's triple on whole staging memrefs: the inputs' buffers and the tables are handed back as they were, the
    output's buffer and the two scratch buffers at some contents. -/
theorem item_kernel (c : Dev nD) (E : Set ℕ) (i : grid0.Coords) (arg6 : Memref sig .tc .vmem S512x1024 .bf16) (harg6 : arg6.IsWhole) (arg7 : Memref sig .tc .vmem S1x1024x2560 .i8) (harg7 : arg7.IsWhole) (arg8 : Memref sig .tc .vmem S1x1x5120 .f32) (harg8 : arg8.IsWhole) (arg9 : Memref sig .tc .vmem S512x5120 .bf16) (harg9 : arg9.IsWhole) (arg10 : Memref sig .tc .vmem S512x1024 .bf16) (harg10 : arg10.IsWhole) (arg11 : Memref sig .tc .vmem S512x128 .f32) (harg11 : arg11.IsWhole)
    (x0 : Vec F S512x1024 .bf16) (x1 : Vec F S1x1024x2560 .i8) (x2 : Vec F S1x1x5120 .f32) (x3 : Vec F S512x5120 .bf16) (x4 : Vec F S512x1024 .bf16) (x5 : Vec F S512x128 .f32)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ tbPt0 c tbM0_0 xt0 ∗ tbPt0 c tbM0_1 xt1 ∗ tbPt0 c tbM0_2 xt2 ∗ tbPt0 c tbM0_3 xt3 ∗ tbPt0 c tbM0_4 xt4
        ∗ (iprop(owns (c : Thread nD τ) arg6 fullShare x0 ∗ owns (c : Thread nD τ) arg7 fullShare x1 ∗ owns (c : Thread nD τ) arg8 fullShare x2 ∗ (∃ d, ⌜OutRel (wd2 c i xt2) (wd3 c i xt3) (lane0 (if Fresh (wd4 c i xt4) then scaleOf x0 else x5)) (if Fresh (wd4 c i xt4) then codesOf x0 else x4) x1 x2 x3 d⌝ ∗ owns (c : Thread nD τ) arg9 fullShare d) ∗ owns (c : Thread nD τ) arg10 fullShare (if Fresh (wd4 c i xt4) then codesOf x0 else x4) ∗ owns (c : Thread nD τ) arg11 fullShare (if Fresh (wd4 c i xt4) then scaleOf x0 else x5) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
      ⊢ wp frame (wpE (defs₀ (F := F)) Variants.none c none) E (cc0_grouped_matmul i tbM0_0 htbM0_0 tbM0_1 htbM0_1 tbM0_2 htbM0_2 tbM0_3 htbM0_3 tbM0_4 htbM0_4 arg6 harg6 arg7 harg7 arg8 harg8 arg9 harg9 arg10 harg10 arg11 harg11) K := by
  simp only [cc0_grouped_matmul_eq_skeleton]; unfold cc0_grouped_matmul_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT0, HT1, HT2, HT3, HT4, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  have e0 : View.readAt (Elt F) arg6.view (Rect.unit (s := S512x1024) ![0, 0] S512x1024.size inb_S512x1024_S512x1024_0_0).toLoadRect f0 = View.read (Elt F) arg6.view f0 :=
    ld_whole (View.read (Elt F) arg6.view f0) ![0, 0] (by decide) _
  have e4 : View.read (Elt F) arg10.view (if hc : Scalar.cmpi .ne (Scalar.extui (Scalar.cmpi .eq (item_kernel.sl.r c i xt4) 1#32)) 0#32 = 1#1 then
        arg10.view.writes (Elt F) f4 [⟨Rect.unit ![0, 0] ![512, 1024] inb_S512x1024_S512x1024_0_0,
              k0_pay2 (item_kernel.sl.r_1 c arg6 f0) (item_kernel.sl.r_6 c arg6 f0) (item_kernel.sl.r_7 c arg6 f0) 0#32⟩]
      else f4) = if Fresh (wd4 c i xt4) then codesOf (View.read (Elt F) arg6.view f0) else View.read (Elt F) arg10.view f4 := by
    rw [read_dite]
    refine congrArg (fun z => if Fresh (wd4 c i xt4) then z else View.read (Elt F) arg10.view f4) ?_
    refine (read_whole (s := S512x1024) arg10.view f4 ![0, 0] (by decide) _ _).trans ?_
    show codesOf (View.readAt (Elt F) arg6.view (Rect.unit (s := S512x1024) ![0, 0] S512x1024.size inb_S512x1024_S512x1024_0_0).toLoadRect f0) = _
    rw [e0]
  have e5 : View.read (Elt F) arg11.view (if hc : Scalar.cmpi .ne (Scalar.extui (Scalar.cmpi .eq (item_kernel.sl.r c i xt4) 1#32)) 0#32 = 1#1 then
        arg11.view.writes (Elt F) f5 [⟨Rect.unit ![0, 0] ![512, 128] inb_S512x128_S512x128_0_0,
              k0_pay3 (item_kernel.sl.r_6 c arg6 f0) (item_kernel.sl.r_7 c arg6 f0) 0#32⟩]
      else f5) = if Fresh (wd4 c i xt4) then scaleOf (View.read (Elt F) arg6.view f0) else View.read (Elt F) arg11.view f5 := by
    rw [read_dite]
    refine congrArg (fun z => if Fresh (wd4 c i xt4) then z else View.read (Elt F) arg11.view f5) ?_
    refine (read_whole (s := S512x128) arg11.view f5 ![0, 0] (by decide) _ _).trans ?_
    show scaleOf (View.readAt (Elt F) arg6.view (Rect.unit (s := S512x1024) ![0, 0] S512x1024.size inb_S512x1024_S512x1024_0_0).toLoadRect f0) = _
    rw [e0]
  have e32 : item_kernel.sl.v32 c i arg6 arg10 xt4 f0 f4 = if Fresh (wd4 c i xt4) then codesOf (View.read (Elt F) arg6.view f0) else View.read (Elt F) arg10.view f4 := by
    refine (ld_whole (s := S512x1024) _ ![0, 0] (by decide) inb_S512x1024_S512x1024_0_0).trans e4
  have e18 : item_kernel.sl.v18 c i arg6 arg11 xt4 f0 f5 = lane0 (if Fresh (wd4 c i xt4) then scaleOf (View.read (Elt F) arg6.view f0) else View.read (Elt F) arg11.view f5) :=
    congrArg lane0 e5
  isplitl [H3]
  · iexists _; isplitr
    swap
    · iexists _; isplitr
      swap; · iexact H3
      ipureintro; rfl
    ipureintro
    unfold OutRel
    rw [← e32, ← e18, read_dite]
    by_cases hc : k0_cond2 (item_kernel.sl.r_8 c i xt2) (item_kernel.sl.r_9 c i xt3) = 1#1
    · rw [if_pos hc, if_pos (show k0_cond2 (wd2 c i xt2) (wd3 c i xt3) = 1#1 from hc)]
      intro h k
      funext p
      match h, k with
      | 0, 0 =>
        refine (ten_0 arg9.view f3 _ _ _ _ _ _ _ _ _ _ p).trans ?_
        exact congrFun (pay_0 (wd2 c i xt2) (wd3 c i xt3) (item_kernel.sl.v18 c i arg6 arg11 xt4 f0 f5) (wsl 0 (View.read (Elt F) arg7.view f1)) (item_kernel.sl.v32 c i arg6 arg10 xt4 f0 f4) (ssl 0 0 (View.read (Elt F) arg8.view f2)) (osl 0 0 (View.read (Elt F) arg9.view f3))) p
      | 0, 1 =>
        refine (ten_512 arg9.view f3 _ _ _ _ _ _ _ _ _ _ p).trans ?_
        exact congrFun (pay_512 (k0_pay13 (F := F) (wd2 c i xt2) (wd3 c i xt3)) (item_kernel.sl.v18 c i arg6 arg11 xt4 f0 f5) (wsl 1 (View.read (Elt F) arg7.view f1)) (item_kernel.sl.v32 c i arg6 arg10 xt4 f0 f4) (ssl 0 1 (View.read (Elt F) arg8.view f2)) (osl 0 1 (View.read (Elt F) arg9.view f3))) p
      | 0, 2 =>
        refine (ten_1024 arg9.view f3 _ _ _ _ _ _ _ _ _ _ p).trans ?_
        exact congrFun (pay_1024 (k0_pay13 (F := F) (wd2 c i xt2) (wd3 c i xt3)) (item_kernel.sl.v18 c i arg6 arg11 xt4 f0 f5) (wsl 2 (View.read (Elt F) arg7.view f1)) (item_kernel.sl.v32 c i arg6 arg10 xt4 f0 f4) (ssl 0 2 (View.read (Elt F) arg8.view f2)) (osl 0 2 (View.read (Elt F) arg9.view f3))) p
      | 0, 3 =>
        refine (ten_1536 arg9.view f3 _ _ _ _ _ _ _ _ _ _ p).trans ?_
        exact congrFun (pay_1536 (k0_pay13 (F := F) (wd2 c i xt2) (wd3 c i xt3)) (item_kernel.sl.v18 c i arg6 arg11 xt4 f0 f5) (wsl 3 (View.read (Elt F) arg7.view f1)) (item_kernel.sl.v32 c i arg6 arg10 xt4 f0 f4) (ssl 0 3 (View.read (Elt F) arg8.view f2)) (osl 0 3 (View.read (Elt F) arg9.view f3))) p
      | 0, 4 =>
        refine (ten_2048 arg9.view f3 _ _ _ _ _ _ _ _ _ _ p).trans ?_
        exact congrFun (pay_2048 (k0_pay13 (F := F) (wd2 c i xt2) (wd3 c i xt3)) (item_kernel.sl.v18 c i arg6 arg11 xt4 f0 f5) (wsl 4 (View.read (Elt F) arg7.view f1)) (item_kernel.sl.v32 c i arg6 arg10 xt4 f0 f4) (ssl 0 4 (View.read (Elt F) arg8.view f2)) (osl 0 4 (View.read (Elt F) arg9.view f3))) p
      | 1, 0 =>
        refine (ten_2560 arg9.view f3 _ _ _ _ _ _ _ _ _ _ p).trans ?_
        exact congrFun (pay_2560 (k0_pay13 (F := F) (wd2 c i xt2) (wd3 c i xt3)) (item_kernel.sl.v18 c i arg6 arg11 xt4 f0 f5) (wsl 0 (View.read (Elt F) arg7.view f1)) (item_kernel.sl.v32 c i arg6 arg10 xt4 f0 f4) (ssl 1 0 (View.read (Elt F) arg8.view f2)) (osl 1 0 (View.read (Elt F) arg9.view f3))) p
      | 1, 1 =>
        refine (ten_3072 arg9.view f3 _ _ _ _ _ _ _ _ _ _ p).trans ?_
        exact congrFun (pay_3072 (k0_pay13 (F := F) (wd2 c i xt2) (wd3 c i xt3)) (item_kernel.sl.v18 c i arg6 arg11 xt4 f0 f5) (wsl 1 (View.read (Elt F) arg7.view f1)) (item_kernel.sl.v32 c i arg6 arg10 xt4 f0 f4) (ssl 1 1 (View.read (Elt F) arg8.view f2)) (osl 1 1 (View.read (Elt F) arg9.view f3))) p
      | 1, 2 =>
        refine (ten_3584 arg9.view f3 _ _ _ _ _ _ _ _ _ _ p).trans ?_
        exact congrFun (pay_3584 (k0_pay13 (F := F) (wd2 c i xt2) (wd3 c i xt3)) (item_kernel.sl.v18 c i arg6 arg11 xt4 f0 f5) (wsl 2 (View.read (Elt F) arg7.view f1)) (item_kernel.sl.v32 c i arg6 arg10 xt4 f0 f4) (ssl 1 2 (View.read (Elt F) arg8.view f2)) (osl 1 2 (View.read (Elt F) arg9.view f3))) p
      | 1, 3 =>
        refine (ten_4096 arg9.view f3 _ _ _ _ _ _ _ _ _ _ p).trans ?_
        exact congrFun (pay_4096 (k0_pay13 (F := F) (wd2 c i xt2) (wd3 c i xt3)) (item_kernel.sl.v18 c i arg6 arg11 xt4 f0 f5) (wsl 3 (View.read (Elt F) arg7.view f1)) (item_kernel.sl.v32 c i arg6 arg10 xt4 f0 f4) (ssl 1 3 (View.read (Elt F) arg8.view f2)) (osl 1 3 (View.read (Elt F) arg9.view f3))) p
      | 1, 4 =>
        refine (ten_4608 arg9.view f3 _ _ _ _ _ _ _ _ _ _ p).trans ?_
        exact congrFun (pay_4608 (k0_pay13 (F := F) (wd2 c i xt2) (wd3 c i xt3)) (item_kernel.sl.v18 c i arg6 arg11 xt4 f0 f5) (wsl 4 (View.read (Elt F) arg7.view f1)) (item_kernel.sl.v32 c i arg6 arg10 xt4 f0 f4) (ssl 1 4 (View.read (Elt F) arg8.view f2)) (osl 1 4 (View.read (Elt F) arg9.view f3))) p
    · rw [if_neg hc, if_neg (show ¬ k0_cond2 (wd2 c i xt2) (wd3 c i xt3) = 1#1 from hc)]
  isplitl [H4]
  · iexists _; isplitr
    swap; · iexact H4
    ipureintro; exact e4
  isplitl [H5]
  · iexists _; isplitr
    swap; · iexact H5
    ipureintro; exact e5
  isplitl [HT0]; · iexact HT0
  isplitl [HT1]; · iexact HT1
  isplitl [HT2]; · iexact HT2
  isplitl [HT3]; · iexact HT3
  iexact HT4

end Cert.KernelIdeal.Run
-- ==== Proof.Points.lean ====
module

public import proofs.«01_k».proof.Proof.Item
public import proofs.«01_k».proof.Proof.KernelIdealTables
public import proofs.«01_k».proof.Proof.Gen.KernelIdeal.Skeleton
public import Idealize.ShloMosaic.Lib.Pipeline.FrameBody
public import Idealize.ShloMosaic.Lib.Claim
public import Idealize.ShloMosaic.Lib.WritesUnit
public import Idealize.ShloMosaic.Lib.ValueIdx
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid: the tables' words, the blocks, the write-backs -/

theorem coords_val : ∀ t : Fin grid0.N, (grid0.coords t 0).val = t.val := by decide +kernel

/-- The item of grid point `t`. -/
abbrev it (t : Fin grid0.N) : Fin 48 := pt (grid0.coords t)

theorem it_val (t : Fin grid0.N) : (it t).val = t.val := coords_val t

section
variable {f : ℕ → ℕ} (h : Tables.Holds (sizes m 0) f) (hs : Tables.P f 16 ≤ 16384)

/-- The row tile of an item. -/
abbrev tl (i : Fin 48) : Fin 32 := ⟨Tables.tileN (sizes m 0) f i, Tables.tileN_lt h hs i⟩
/-- The group of an item. -/
abbrev gr (i : Fin 48) : Fin 16 := ⟨Tables.G (sizes m 0) i, Tables.G_lt h hs i⟩

end

/-- Row tile `n` of the input. -/
def xb (c : Dev nD) (n : Fin 32) : Vec F S512x1024 .bf16 := fun q =>
  (V m c main_arg0 : S16384x1024.Idx → Elt F .bf16) (ix2 (⟨512 * n.val + (q 0).val, by have := n.isLt; have h : (q 0).val < 512 := (q 0).isLt; omega⟩ : Fin 16384) (⟨(q 1).val, (q 1).isLt⟩ : Fin 1024))
/-- Group `g`'s packed weights. -/
def wb (c : Dev nD) (g : Fin 16) : Vec F S1x1024x2560 .i8 := fun q =>
  (V m c main_arg2 : S16x1024x2560.Idx → Elt F .i8) (ix3 g (⟨(q 1).val, (q 1).isLt⟩ : Fin 1024) (⟨(q 2).val, (q 2).isLt⟩ : Fin 2560))
/-- Group `g`'s weight scales. -/
def sb (c : Dev nD) (g : Fin 16) : Vec F S1x1x5120 .f32 := fun q =>
  (V m c main_v74 : S16x1x5120.Idx → Elt F .f32) (ix3 g (0 : Fin 1) (⟨(q 2).val, (q 2).isLt⟩ : Fin 5120))

/-- A window's block of its array at a point. -/
abbrev blkG (a : (pcfg0 (F := F)).Adm) (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

theorem index0_gen (a : (pcfg0 (F := F)).Adm) (t : Fin grid0.N) : ((cfg0 a).win 0).index t = cc0_transform_0 k0_off1_inb numel1_S1 a.1 (grid0.coords t) := by rfl
theorem emb0_gen (a : (pcfg0 (F := F)).Adm) (t : Fin grid0.N) (q : S512x1024.Idx) (x : Fin S16384x1024.rank) :
    (((((cfg0 a).win 0).blk t).view.emb q : S16384x1024.Idx) x).val = cc0_transform_0 k0_off1_inb numel1_S1 a.1 (grid0.coords t) x * S512x1024.size x + 1 * (q x).val := by rfl
theorem index1_gen (a : (pcfg0 (F := F)).Adm) (t : Fin grid0.N) : ((cfg0 a).win 1).index t = cc0_transform_1 k0_off1_inb numel1_S1 a.1 (grid0.coords t) := by rfl
theorem emb1_gen (a : (pcfg0 (F := F)).Adm) (t : Fin grid0.N) (q : S1x1024x2560.Idx) (x : Fin S16x1024x2560.rank) :
    (((((cfg0 a).win 1).blk t).view.emb q : S16x1024x2560.Idx) x).val = cc0_transform_1 k0_off1_inb numel1_S1 a.1 (grid0.coords t) x * S1x1024x2560.size x + 1 * (q x).val := by rfl
theorem index2_gen (a : (pcfg0 (F := F)).Adm) (t : Fin grid0.N) : ((cfg0 a).win 2).index t = cc0_transform_2 k0_off1_inb numel1_S1 a.1 (grid0.coords t) := by rfl
theorem emb2_gen (a : (pcfg0 (F := F)).Adm) (t : Fin grid0.N) (q : S1x1x5120.Idx) (x : Fin S16x1x5120.rank) :
    (((((cfg0 a).win 2).blk t).view.emb q : S16x1x5120.Idx) x).val = cc0_transform_2 k0_off1_inb numel1_S1 a.1 (grid0.coords t) x * S1x1x5120.size x + 1 * (q x).val := by rfl
theorem index3_gen (a : (pcfg0 (F := F)).Adm) (t : Fin grid0.N) : ((cfg0 a).win 3).index t = cc0_transform_3 k0_off1_inb numel1_S1 a.1 (grid0.coords t) := by rfl
theorem emb3_gen (a : (pcfg0 (F := F)).Adm) (t : Fin grid0.N) (q : S512x5120.Idx) (x : Fin S16384x5120.rank) :
    (((((cfg0 a).win 3).blk t).view.emb q : S16384x5120.Idx) x).val = cc0_transform_3 k0_off1_inb numel1_S1 a.1 (grid0.coords t) x * S512x5120.size x + 1 * (q x).val := by rfl

theorem vec_inj (n n' : ℕ) : (![n, 0] : Fin 2 → ℕ) = ![n', 0] ↔ n = n' := ⟨fun e => congrFun e 0, fun e => by rw [e]⟩

theorem at0 (n : Fin 32) (q : S512x1024.Idx) (h1 : 512 * n.val + (q 0).val < 16384) (h2 : (q 1).val < 1024) : ∀ x : Fin 2,
    (![n.val, 0] : Fin 2 → ℕ) x * S512x1024.size x + 1 * (q x).val = ((ix2 (⟨512 * n.val + (q 0).val, h1⟩ : Fin 16384) (⟨(q 1).val, h2⟩ : Fin 1024) : S16384x1024.Idx) x).val :=
  Fin.forall_fin_two.mpr ⟨by show n.val * 512 + 1 * (q 0).val = 512 * n.val + (q 0).val; omega, by show 0 * 1024 + 1 * (q 1).val = (q 1).val; omega⟩

theorem at3 (n : Fin 32) (q : S512x5120.Idx) (h1 : 512 * n.val + (q 0).val < 16384) (h2 : (q 1).val < 5120) : ∀ x : Fin 2,
    (![n.val, 0] : Fin 2 → ℕ) x * S512x5120.size x + 1 * (q x).val = ((ix2 (⟨512 * n.val + (q 0).val, h1⟩ : Fin 16384) (⟨(q 1).val, h2⟩ : Fin 5120) : S16384x5120.Idx) x).val :=
  Fin.forall_fin_two.mpr ⟨by show n.val * 512 + 1 * (q 0).val = 512 * n.val + (q 0).val; omega, by show 0 * 5120 + 1 * (q 1).val = (q 1).val; omega⟩

theorem fin3 {p : Fin 3 → Prop} (h0 : p 0) (h1 : p 1) (h2 : p 2) : ∀ x, p x := fun x => by
  match x with
  | 0 => exact h0
  | 1 => exact h1
  | 2 => exact h2

theorem at1 (n : ℕ) (hn : n < 16) (q : S1x1024x2560.Idx) (h1 : (q 1).val < 1024) (h2 : (q 2).val < 2560) : ∀ x : Fin 3,
    (![n, 0, 0] : Fin 3 → ℕ) x * S1x1024x2560.size x + 1 * (q x).val = ((ix3 (⟨n, hn⟩ : Fin 16) (⟨(q 1).val, h1⟩ : Fin 1024) (⟨(q 2).val, h2⟩ : Fin 2560) : S16x1024x2560.Idx) x).val :=
  have hq : (q 0).val < 1 := (q 0).isLt
  fin3 (by show n * 1 + 1 * (q 0).val = n; omega) (by show 0 * 1024 + 1 * (q 1).val = (q 1).val; omega) (by show 0 * 2560 + 1 * (q 2).val = (q 2).val; omega)

theorem at2 (n : ℕ) (hn : n < 16) (q : S1x1x5120.Idx) (h2 : (q 2).val < 5120) : ∀ x : Fin 3,
    (![n, 0, 0] : Fin 3 → ℕ) x * S1x1x5120.size x + 1 * (q x).val = ((ix3 (⟨n, hn⟩ : Fin 16) (0 : Fin 1) (⟨(q 2).val, h2⟩ : Fin 5120) : S16x1x5120.Idx) x).val :=
  have hq : (q 0).val < 1 := (q 0).isLt
  have hq1 : (q 1).val < 1 := (q 1).isLt
  fin3 (by show n * 1 + 1 * (q 0).val = n; omega) (by show 0 * 1 + 1 * (q 1).val = 0; omega) (by show 0 * 5120 + 1 * (q 2).val = (q 2).val; omega)

theorem blk0_of (a : (pcfg0 (F := F)).Adm) (c : Dev nD) (t : Fin grid0.N) (n : Fin 32)
    (e : cc0_transform_0 k0_off1_inb numel1_S1 a.1 (grid0.coords t) = ![n.val, 0]) : (blkG m a c 0 t : Vec F S512x1024 .bf16) = xb m c n := by
  funext q
  refine congrArg (V m c main_arg0 : S16384x1024.Idx → Elt F .bf16) (funext fun x => Fin.ext ?_)
  rw [emb0_gen a t q x, e]
  exact at0 n q _ _ x

theorem emb3_of (a : (pcfg0 (F := F)).Adm) (t : Fin grid0.N) (n : Fin 32)
    (e : cc0_transform_3 k0_off1_inb numel1_S1 a.1 (grid0.coords t) = ![n.val, 0]) (q : S512x5120.Idx) : ((((cfg0 a).win 3).blk t).view.emb q : S16384x5120.Idx)
    = ix2 (⟨512 * n.val + (q 0).val, by have := n.isLt; have h : (q 0).val < 512 := (q 0).isLt; omega⟩ : Fin 16384) (⟨(q 1).val, (q 1).isLt⟩ : Fin 5120) := by
  refine funext fun x => Fin.ext ?_
  rw [emb3_gen a t q x, e]
  exact at3 n q _ _ x

attribute [local irreducible] Tables.tileN Tables.G Tables.loN Tables.hiN

section
variable {f : ℕ → ℕ} (h : Tables.Holds (sizes m 0) f) (hs : Tables.P f 16 ≤ 16384) (a : (pcfg0 (F := F)).Adm) (ha : a.1 = tbl m)
include h hs ha

theorem iblk0 (c : Dev nD) (t : Fin grid0.N) : (blkG m a c 0 t : Vec F S512x1024 .bf16) = xb m c (tl m h hs (it t)) :=
  blk0_of m a c t (tl m h hs (it t)) ((congrArg (fun z => cc0_transform_0 k0_off1_inb numel1_S1 z (grid0.coords t)) ha).trans (map0 m h hs (grid0.coords t)))

theorem iblk1 (c : Dev nD) (t : Fin grid0.N) : (blkG m a c 1 t : Vec F S1x1024x2560 .i8) = wb m c (gr m h hs (it t)) := by
  funext q
  refine congrArg (V m c main_arg2 : S16x1024x2560.Idx → Elt F .i8) (funext fun x => Fin.ext ?_)
  rw [emb1_gen a t q x, ha, map1 m h hs (grid0.coords t)]
  exact at1 _ (Tables.G_lt h hs (it t)) q _ _ x

theorem iblk2 (c : Dev nD) (t : Fin grid0.N) : (blkG m a c 2 t : Vec F S1x1x5120 .f32) = sb m c (gr m h hs (it t)) := by
  funext q
  refine congrArg (V m c main_v74 : S16x1x5120.Idx → Elt F .f32) (funext fun x => Fin.ext ?_)
  rw [emb2_gen a t q x, ha, map2 m h hs (grid0.coords t)]
  exact at2 _ (Tables.G_lt h hs (it t)) q _ x

/-- Where the output's block at a point lies in its array. -/
theorem emb3 (t : Fin grid0.N) (q : S512x5120.Idx) : ((((cfg0 a).win 3).blk t).view.emb q : S16384x5120.Idx)
    = ix2 (⟨512 * (tl m h hs (it t)).val + (q 0).val, by have := (tl m h hs (it t)).isLt; have h : (q 0).val < 512 := (q 0).isLt; omega⟩ : Fin 16384) (⟨(q 1).val, (q 1).isLt⟩ : Fin 5120) := by
  exact emb3_of a t (tl m h hs (it t)) ((congrArg (fun z => cc0_transform_3 k0_off1_inb numel1_S1 z (grid0.coords t)) ha).trans (map3 m h hs (grid0.coords t))) q

omit h hs ha in
theorem flush3_gen (a : (pcfg0 (F := F)).Adm) (t : Fin grid0.N) : ((cfg0 a).win 3).flush t = true ↔ (t.val + 1 = grid0.N ∨ ∃ h' : t.val + 1 < grid0.N, cc0_transform_3 k0_off1_inb numel1_S1 a.1 (grid0.coords ⟨t.val + 1, h'⟩) ≠ cc0_transform_3 k0_off1_inb numel1_S1 a.1 (grid0.coords t)) := by
  unfold Pipeline.Window.flush
  rw [Bool.and_eq_true, Bool.or_eq_true, decide_eq_true_iff, decide_eq_true_iff]
  exact ⟨fun e => e.2, fun e => ⟨rfl, e⟩⟩

/-- The output is written back at a point when it is the last one or the next has another row tile. -/
theorem flush3 (t : Fin grid0.N) : ((cfg0 a).win 3).flush t = true ↔ (t.val + 1 = grid0.N ∨ ∃ h' : t.val + 1 < grid0.N, Tables.tileN (sizes m 0) f (it ⟨t.val + 1, h'⟩) ≠ Tables.tileN (sizes m 0) f (it t)) := by
  refine (flush3_gen a t).trans (or_congr Iff.rfl (exists_congr fun h' => not_congr ?_))
  rw [ha, map3 m h hs (grid0.coords t), map3 m h hs (grid0.coords ⟨t.val + 1, h'⟩)]
  exact vec_inj _ _

omit h hs ha in
theorem fetch3 (a : (pcfg0 (F := F)).Adm) (t : Fin grid0.N) : ((cfg0 a).win 3).fetch t = false := by rfl

omit ha in
theorem word2 (c : Dev nD) (t : Fin grid0.N) : wd2 c (grid0.coords t) (tbl m 2) = BitVec.ofNat 32 (Tables.loN (sizes m 0) f (it t)) := by
  show V m 0 main_v55 _ = _
  rw [V_lo]
  refine (congrArg (Tables.lo (sizes m 0)) (emb_eq (grid0.coords t) _ _)).trans ?_
  exact Tables.lo_word h hs (it t)
omit ha in
theorem word3 (c : Dev nD) (t : Fin grid0.N) : wd3 c (grid0.coords t) (tbl m 3) = BitVec.ofNat 32 (Tables.hiN (sizes m 0) f (it t)) := by
  show V m 0 main_v67 _ = _
  rw [V_hi]
  refine (congrArg (Tables.hi (sizes m 0)) (emb_eq (grid0.coords t) _ _)).trans ?_
  exact Tables.hi_word h hs (it t)
omit h hs ha in
theorem word4 (c : Dev nD) (t : Fin grid0.N) : wd4 c (grid0.coords t) (tbl m 4) = Tables.first (sizes m 0) (ix1 (it t)) := by
  show V m 0 main_v73 _ = _
  rw [V_first]
  exact congrArg (Tables.first (sizes m 0)) (emb_eq (grid0.coords t) _ _)

omit h hs ha in
theorem first_at (t : Fin grid0.N) (e : t.val = 0) : it t = 0 := Fin.ext ((it_val t).trans e)

omit h hs ha in
theorem fresh_one : Fresh (1#32) := by unfold Fresh; decide

omit h hs ha in
theorem fresh_zero (c : Dev nD) (t : Fin grid0.N) (ht : t.val = 0) : Fresh (wd4 c (grid0.coords t) (tbl m 4)) := by
  rw [word4 m c t, first_at t ht, Tables.first_zero]
  exact fresh_one

omit ha in
theorem not_fresh (c : Dev nD) (t : Fin grid0.N) (i : Fin 48) (ht : t.val = i.val + 1) (hf : ¬ Fresh (wd4 c (grid0.coords t) (tbl m 4))) :
    Tables.tileN (sizes m 0) f (it t) = Tables.tileN (sizes m 0) f i := by
  have hlt : i.val + 1 < 48 := by rw [← ht]; exact t.isLt
  have e : it t = ⟨i.val + 1, hlt⟩ := Fin.ext ((it_val t).trans ht)
  rw [word4 m c t, e, Tables.first_succ h hs i.val hlt] at hf
  rw [e]
  by_contra hne
  rw [if_pos hne] at hf
  exact hf fresh_one
end

end Cert.KernelIdeal.Run
-- ==== Proof.ValueRun.lean ====
module

public import proofs.«01_k».proof.Proof.Points
public import proofs.«01_k».proof.Proof.KernelIdealTables
public import proofs.«01_k».proof.Proof.Gen.KernelIdeal.Skeleton
public import Idealize.ShloMosaic.Lib.Pipeline.FrameBody
public import Idealize.ShloMosaic.Lib.Claim
public import Idealize.ShloMosaic.Lib.WritesUnit
public import Idealize.ShloMosaic.Lib.ValueIdx
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ArrRel

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] V
attribute [local irreducible] Tables.tileN Tables.G Tables.loN Tables.hiN xb wb sb codesOf scaleOf

/-! ## The run of the pipeline, with what every item leaves in its output block -/

section
variable (tf : Fin 48 → Fin 32) (gf : Fin 48 → Fin 16)

/-- The row tile and the group of every item: the blocks that its point fetches, and its tile the last item's when its word
    says so. -/
structure Sched (a : (pcfg0 (F := F)).Adm) : Prop where
  x : ∀ c t, (blkG m a c 0 t : Vec F S512x1024 .bf16) = xb m c (tf (it t))
  w : ∀ c t, (blkG m a c 1 t : Vec F S1x1024x2560 .i8) = wb m c (gf (it t))
  s : ∀ c t, (blkG m a c 2 t : Vec F S1x1x5120 .f32) = sb m c (gf (it t))
  same : ∀ (c : Dev nD) (t : Fin grid0.N) (i : Fin 48), t.val = i.val + 1 → ¬ Fresh (wd4 c (grid0.coords t) (tbl m 4)) → tf (it t) = tf i

variable (a : (pcfg0 (F := F)).Adm) (hS : Sched m tf gf a)

/-- The body table's row at point `t`. -/
theorem defs₀_row_gen (t : Fin grid0.N) :
    defs₀ (F := F) .tc (cfg0 a).body ((cfg0 a).bodyArgs t ((cfg0 a).slots t))
      = cc0_grouped_matmul (grid0.coords t) tbM0_0 htbM0_0 tbM0_1 htbM0_1 tbM0_2 htbM0_2 tbM0_3 htbM0_3 tbM0_4 htbM0_4
          (spec0_0.stage ((cfg0 a).slots t 0)) (hstage0_0 (((cfg0 a).slots t 0).cast nbuf0_0))
          (spec0_1.stage ((cfg0 a).slots t 1)) (hstage0_1 (((cfg0 a).slots t 1).cast nbuf0_1))
          (spec0_2.stage ((cfg0 a).slots t 2)) (hstage0_2 (((cfg0 a).slots t 2).cast nbuf0_2))
          (spec0_3.stage ((cfg0 a).slots t 3)) (hstage0_3 (((cfg0 a).slots t 3).cast nbuf0_3))
          (Memref.whole cc0_scratch0) (Memref.isWhole_whole _) (Memref.whole cc0_scratch1) (Memref.isWhole_whole _) := by
  unfold defs₀; rw [Defs.onTc_tc]

/-- What the two scratch buffers hold before point `t`: after the first point, the last item's quantised rows and scales. -/
def Kept (c : Dev nD) (t : ℕ) (d4 : Vec F S512x1024 .bf16) (d5 : Vec F S512x128 .f32) : Prop :=
  ∀ i : Fin 48, t = i.val + 1 → d4 = codesOf (xb m c (tf i)) ∧ d5 = scaleOf (xb m c (tf i))

/-- The two scratch buffers in a relation, the generator register and the tables. -/
def PhiG (c : Dev nD) (K : Vec F S512x1024 .bf16 → Vec F S512x128 .f32 → Prop)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) : sProp 𝕄 :=
  iprop((∃ d4, ∃ d5, ⌜K d4 d5⌝ ∗ owns (c : Thread nD τ) (Memref.whole cc0_scratch0) fullShare d4 ∗ owns (c : Thread nD τ) (Memref.whole cc0_scratch1) fullShare d5)
    ∗ (∃ r, prngReg c r) ∗ tbPt0 c tbM0_0 xt0 ∗ tbPt0 c tbM0_1 xt1 ∗ tbPt0 c tbM0_2 xt2 ∗ tbPt0 c tbM0_3 xt3 ∗ tbPt0 c tbM0_4 xt4)

/-- What is held between points. -/
def PhiV (c : Dev nD) (t : ℕ) : sProp 𝕄 := PhiG c (Kept m tf c t) (tbl m 0) (tbl m 1) (tbl m 2) (tbl m 3) (tbl m 4)

theorem Phi_in (c : Dev nD) : Phi m c ⊢ PhiV m tf c 0 := by
  unfold Phi PhiV PhiG
  iintro ⟨⟨%d4, S0⟩, ⟨%d5, S1⟩, R⟩
  isplitl [S0 S1]
  · iexists d4; iexists d5
    isplitr
    · ipureintro; intro i hi; exact absurd hi (by omega)
    isplitl [S0]; · iexact S0
    iexact S1
  iexact R

theorem Phi_out (c : Dev nD) (t : ℕ) : PhiV m tf c t ⊢ Phi m c := by
  unfold Phi PhiV PhiG
  iintro ⟨⟨%d4, %d5, -, S0, S1⟩, R⟩
  isplitl [S0]; · iexists d4; iexact S0
  isplitl [S1]; · iexists d5; iexact S1
  iexact R

/-- What item `i` leaves in its output block of the block it found. -/
def ItemRel (c : Dev nD) (t : Fin grid0.N) (Y X : Vec F S512x5120 .bf16) : Prop :=
  OutRel (wd2 c (grid0.coords t) (tbl m 2)) (wd3 c (grid0.coords t) (tbl m 3)) (lane0 (scaleOf (xb m c (tf (it t))))) (codesOf (xb m c (tf (it t))))
    (wb m c (gf (it t))) (sb m c (gf (it t))) Y X

/-- The proof data of the one pipeline on core `c`: the inputs' buffers left as found, the output's in `ItemRel`. -/
def vdat (c : Dev nD) : Pipeline.RDat τ (Elt F) Unit ℕ (UR sig nD τ) ℕ (cfg0 a) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => ItemRel m tf gf c t Y X
  Φ t := PhiV m tf c t.val
  q _ := fullShare
  owed _ := 0

include hS in
theorem kept_eq (c : Dev nD) (t : Fin grid0.N) (d4 : Vec F S512x1024 .bf16) (d5 : Vec F S512x128 .f32) (hk : Kept m tf c t.val d4 d5) :
    (if Fresh (wd4 c (grid0.coords t) (tbl m 4)) then codesOf (xb m c (tf (it t))) else d4) = codesOf (xb m c (tf (it t)))
      ∧ (if Fresh (wd4 c (grid0.coords t) (tbl m 4)) then scaleOf (xb m c (tf (it t))) else d5) = scaleOf (xb m c (tf (it t))) := by
  by_cases hf : Fresh (wd4 c (grid0.coords t) (tbl m 4))
  · rw [if_pos hf, if_pos hf]; exact ⟨rfl, rfl⟩
  · rw [if_neg hf, if_neg hf]
    rcases Nat.eq_zero_or_pos t.val with h0 | hp
    · exact absurd (fresh_zero m c t h0) hf
    · have hlt : t.val - 1 < 48 := lt_of_le_of_lt (Nat.sub_le _ _) t.isLt
      obtain ⟨e4, e5⟩ := hk ⟨t.val - 1, hlt⟩ (by show t.val = t.val - 1 + 1; omega)
      have e := hS.same c t ⟨t.val - 1, hlt⟩ (by show t.val = t.val - 1 + 1; omega) hf
      rw [e]
      exact ⟨e4, e5⟩

theorem kept_next (c : Dev nD) (t : Fin grid0.N) : Kept m tf c (t.val + 1) (codesOf (xb m c (tf (it t)))) (scaleOf (xb m c (tf (it t)))) := by
  intro i hi
  have e : it t = i := Fin.ext ((it_val t).trans (by omega))
  rw [e]; exact ⟨rfl, rfl⟩

theorem sound_item (c : Dev nD) (t : Fin grid0.N) (O : sProp 𝕄) (K : Vec F S512x1024 .bf16 → Vec F S512x128 .f32 → Prop)
    (x0 : Vec F S512x1024 .bf16) (x1 : Vec F S1x1024x2560 .i8) (x2 : Vec F S1x1x5120 .f32) (Y3 : Vec F S512x5120 .bf16) (cd : Vec F S512x1024 .bf16) (sc : Vec F S512x128 .f32)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)
    (hK : ∀ d4 d5, K d4 d5 → (if Fresh (wd4 c (grid0.coords t) xt4) then codesOf x0 else d4) = cd ∧ (if Fresh (wd4 c (grid0.coords t) xt4) then scaleOf x0 else d5) = sc)
    (R0 : Vec F S512x1024 .bf16 → Prop) (R1 : Vec F S1x1024x2560 .i8 → Prop) (R2 : Vec F S1x1x5120 .f32 → Prop) (R3 : Vec F S512x5120 .bf16 → Prop) (h0 : R0 x0) (h1 : R1 x1) (h2 : R2 x2) (h3 : ∀ X, OutRel (wd2 c (grid0.coords t) xt2) (wd3 c (grid0.coords t) xt3) (lane0 sc) cd x1 x2 Y3 X → R3 X)
    (K' : Vec F S512x1024 .bf16 → Vec F S512x128 .f32 → Prop) (hK' : K' cd sc) :
    iprop(PhiG c K xt0 xt1 xt2 xt3 xt4 ∗ O ∗ owns (c : Thread nD τ) (spec0_0.stage ((cfg0 a).slots t 0)) fullShare x0 ∗ owns (c : Thread nD τ) (spec0_1.stage ((cfg0 a).slots t 1)) fullShare x1
        ∗ owns (c : Thread nD τ) (spec0_2.stage ((cfg0 a).slots t 2)) fullShare x2 ∗ owns (c : Thread nD τ) (spec0_3.stage ((cfg0 a).slots t 3)) fullShare Y3)
      ⊢ wp frame (wpE (defs₀ (F := F)) Variants.none c none) Set.univ (defs₀ (F := F) .tc (cfg0 a).body ((cfg0 a).bodyArgs t ((cfg0 a).slots t)))
          (fun _ => iprop(PhiG c K' xt0 xt1 xt2 xt3 xt4 ∗ O ∗ (∃ X, ⌜R0 X⌝ ∗ owns (c : Thread nD τ) (spec0_0.stage ((cfg0 a).slots t 0)) fullShare X)
            ∗ (∃ X, ⌜R1 X⌝ ∗ owns (c : Thread nD τ) (spec0_1.stage ((cfg0 a).slots t 1)) fullShare X)
            ∗ (∃ X, ⌜R2 X⌝ ∗ owns (c : Thread nD τ) (spec0_2.stage ((cfg0 a).slots t 2)) fullShare X)
            ∗ (∃ X, ⌜R3 X⌝ ∗ owns (c : Thread nD τ) (spec0_3.stage ((cfg0 a).slots t 3)) fullShare X))) := by
  rw [defs₀_row_gen]
  unfold PhiG
  iintro ⟨⟨⟨%d4, %d5, %hk, S0, S1⟩, R, T0, T1, T2, T3, T4⟩, Ho, H0, H1, H2, H3⟩
  iapply (item_kernel c Set.univ _ _ _ _ _ _ _ _ _ _ _ _ _ x0 x1 x2 Y3 d4 d5 xt0 xt1 xt2 xt3 xt4 _)
  rw [(hK d4 d5 hk).1, (hK d4 d5 hk).2]
  isplitl [H0]; · iexact H0
  isplitl [H1]; · iexact H1
  isplitl [H2]; · iexact H2
  isplitl [H3]; · iexact H3
  isplitl [S0]; · iexact S0
  isplitl [S1]; · iexact S1
  isplitl [T0]; · iexact T0
  isplitl [T1]; · iexact T1
  isplitl [T2]; · iexact T2
  isplitl [T3]; · iexact T3
  isplitl [T4]; · iexact T4
  iintro ⟨H0, H1, H2, ⟨%d, %hd, H3⟩, S0, S1, T0, T1, T2, T3, T4⟩
  isplitl [S0 S1 R T0 T1 T2 T3 T4]
  · isplitl [S0 S1]
    · iexists cd; iexists sc
      isplitr
      · ipureintro; exact hK'
      isplitl [S0]; · iexact S0
      iexact S1
    isplitl [R]; · iexact R
    isplitl [T0]; · iexact T0
    isplitl [T1]; · iexact T1
    isplitl [T2]; · iexact T2
    isplitl [T3]; · iexact T3
    iexact T4
  isplitl [Ho]; · iexact Ho
  isplitl [H0]; · iexists x0; isplitr; swap; · iexact H0
                  ipureintro; exact h0
  isplitl [H1]; · iexists x1; isplitr; swap; · iexact H1
                  ipureintro; exact h1
  isplitl [H2]; · iexists x2; isplitr; swap; · iexact H2
                  ipureintro; exact h2
  iexists d; isplitr; swap; · iexact H3
  ipureintro; exact h3 d hd

omit hS in
/-- What an input window's buffer holds at a point: the block of its array. -/
theorem found0 (hS : Sched m tf gf a) (c : Dev nD) (t : Fin grid0.N) (Y : Vec F S512x1024 .bf16) (hY : (vdat m tf gf a c).Finds 0 t Y) : Y = xb m c (tf (it t)) := by
  obtain ⟨d, hd⟩ := (vdat m tf gf a c).finds_in_eq_fetched 0 rfl (fun _ _ _ => rfl) (fun _ _ _ e => e) t Y hY
  exact hd.trans (hS.x c t)
omit hS in
theorem found1 (hS : Sched m tf gf a) (c : Dev nD) (t : Fin grid0.N) (Y : Vec F S1x1024x2560 .i8) (hY : (vdat m tf gf a c).Finds 1 t Y) : Y = wb m c (gf (it t)) := by
  obtain ⟨d, hd⟩ := (vdat m tf gf a c).finds_in_eq_fetched 1 rfl (fun _ _ _ => rfl) (fun _ _ _ e => e) t Y hY
  exact hd.trans (hS.w c t)
omit hS in
theorem found2 (hS : Sched m tf gf a) (c : Dev nD) (t : Fin grid0.N) (Y : Vec F S1x1x5120 .f32) (hY : (vdat m tf gf a c).Finds 2 t Y) : Y = sb m c (gf (it t)) := by
  obtain ⟨d, hd⟩ := (vdat m tf gf a c).finds_in_eq_fetched 2 rfl (fun _ _ _ => rfl) (fun _ _ _ e => e) t Y hY
  exact hd.trans (hS.s c t)

omit hS in
theorem itemRel_of (c : Dev nD) (t : Fin grid0.N) (x1 : Vec F S1x1024x2560 .i8) (x2 : Vec F S1x1x5120 .f32) (Y X : Vec F S512x5120 .bf16)
    (e1 : x1 = wb m c (gf (it t))) (e2 : x2 = sb m c (gf (it t)))
    (hX : OutRel (wd2 c (grid0.coords t) (tbl m 2)) (wd3 c (grid0.coords t) (tbl m 3)) (lane0 (scaleOf (xb m c (tf (it t))))) (codesOf (xb m c (tf (it t)))) x1 x2 Y X) :
    ItemRel m tf gf c t Y X := by
  subst e1 e2; exact hX

include hS in
theorem kept_eq' (c : Dev nD) (t : Fin grid0.N) (d4 : Vec F S512x1024 .bf16) (d5 : Vec F S512x128 .f32) (hk : Kept m tf c t.val d4 d5)
    (x0 : Vec F S512x1024 .bf16) (e0 : x0 = xb m c (tf (it t))) :
    (if Fresh (wd4 c (grid0.coords t) (tbl m 4)) then codesOf x0 else d4) = codesOf (xb m c (tf (it t)))
      ∧ (if Fresh (wd4 c (grid0.coords t) (tbl m 4)) then scaleOf x0 else d5) = scaleOf (xb m c (tf (it t))) := by
  subst e0; exact kept_eq m tf gf a hS c t d4 d5 hk

include hS in
theorem item_obligation (c : Dev nD) : (vdat m tf gf a c).BodyObligation (defs₀ (F := F)) Variants.none () Set.univ := fun t Y hY => by
  have e0 : Y 0 = _ := found0 m tf gf a hS c t (Y 0) (hY 0)
  have e1 : Y 1 = _ := found1 m tf gf a hS c t (Y 1) (hY 1)
  have e2 : Y 2 = _ := found2 m tf gf a hS c t (Y 2) (hY 2)
  rw [bigSep_W0, bigSep_W0]
  refine triple_restated (sound_item a c t ((vdat m tf gf a c).owesAt () t.castSucc) (Kept m tf c t.val) (Y 0) (Y 1) (Y 2) (Y 3)
    (codesOf (xb m c (tf (it t)))) (scaleOf (xb m c (tf (it t)))) (tbl m 0) (tbl m 1) (tbl m 2) (tbl m 3) (tbl m 4)
    (fun d4 d5 hk => kept_eq' m tf gf a hS c t d4 d5 hk (Y 0) e0)
    (fun X => X = Y 0) (fun X => X = Y 1) (fun X => X = Y 2) (fun X => ItemRel m tf gf c t (Y 3) X) rfl rfl rfl
    (fun X hX => itemRel_of m tf gf c t (Y 1) (Y 2) (Y 3) X e1 e2 hX) (Kept m tf c (t.val + 1)) (kept_next m tf c t)) rfl ?_ ?_
  · exact .rfl
  · intro _
    exact .rfl

set_option backward.isDefEq.respectTransparency.types false in
set_option maxHeartbeats 800000 in
/-- THE LAUNCH, with the arrays in the data's relation. -/
theorem run_items (hO : Ok m) (hS : Sched m tf gf (adm m hO)) : θ_run defs (onTc (τ := τ) (main (F := F))) (s₀ m ρ)
    (fun r => (Pipeline.RDat.FramePost ((Pipeline.pin pcfgs fun _ => adm m hO) 0) (vdat m tf gf (adm m hO)) (V m)) r ∧ r.2.sem = fun _ => 0) :=
  Pipeline.RDat.θ_run_frameP_track (Q' := _) pcfgs (fun _ => adm m hO) (0 : Fin 1) launch0 defs₀ Variants.none (vdat m tf gf (adm m hO)) m ρ main
    (hbody := item_obligation m tf gf (adm m hO) hS) (hshare := fun c w => (vdat m tf gf (adm m hO) c).share_full (fun _ => rfl) w)
    (howed := fun _ _ => rfl) (V := V m) (hmain := hmain m Variants.none) (hA := fun _ _ => rfl) (hpf := V_pre m)
    (hin := fun c => (Phi_eq m c).symm ▸ Phi_in m tf c)
    (hout := fun c => (Phi_out m tf c _).trans ((Phi_eq m c) ▸ (by iintro ⟨H, -⟩; iexact H)))

end

end Cert.KernelIdeal.Run
-- ==== Proof.ArrayValue.lean ====
module

public import proofs.«01_k».proof.Proof.ValueRun
public import Idealize.ShloMosaic.Lib.Pipeline.ValueKit
public import proofs.«01_k».proof.Proof.KernelIdealTables
public import proofs.«01_k».proof.Proof.Gen.KernelIdeal.Skeleton
public import Idealize.ShloMosaic.Lib.Pipeline.FrameBody
public import Idealize.ShloMosaic.Lib.Claim
public import Idealize.ShloMosaic.Lib.WritesUnit
public import Idealize.ShloMosaic.Lib.ValueIdx
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ArrRel

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.WordCmp

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] V
attribute [local irreducible] Tables.tileN Tables.G Tables.loN Tables.hiN xb wb sb codesOf scaleOf

/-! ## What the output array holds after the run -/

/-- The scaled product of a column block, rounded. -/
def prodOf (xs : Vec F S512x1 .f32) (W : FVec F S1024x512 .bf16) (codes : Vec F S512x1024 .bf16) (sc : Vec F S1x1x512 .f32) : FVec F S512x512 .bf16 :=
  truncf .bf16 (mulf (mulf (matmul dot_S512x1024_S1024x512_S512x512_1_0_0_1_n_n none codes W (constant S512x512 .f32 0x00000000#32))
      (broadcastTo S512x512 xs broadcasts_S512x1_S512x512)) (broadcastTo S512x512 (shapeCast S1x512 sc shapeCasts_S1x1x512_S1x512) broadcasts_S1x512_S512x512)) bitsLt_bf16_f32

theorem blockOf_at (mask : IVec S512x512 1) (xs : Vec F S512x1 .f32) (W : FVec F S1024x512 .bf16) (codes : Vec F S512x1024 .bf16)
    (sc : Vec F S1x1x512 .f32) (old : Vec F S512x512 .bf16) (p : S512x512.Idx) :
    blockOf mask xs W codes sc old p = if mask p = 1#1 then prodOf xs W codes sc p else old p := by
  unfold blockOf
  rw [shapeCast_self]
  rfl

theorem mask_at (lo hi : ℕ) (hlo : lo ≤ 512) (hhi : hi ≤ 512) (p : S512x512.Idx) :
    k0_pay13 (F := F) (BitVec.ofNat 32 lo) (BitVec.ofNat 32 hi) p = 1#1 ↔ lo ≤ (p 0).val ∧ (p 0).val < hi := by
  have hp : (p 0).val < 512 := (p 0).isLt
  have hi0 : iota .tc S512x512 32 [0] iota_S512x512_d0_w32 p = BitVec.ofNat 32 (p 0).val := by
    rw [iota_at]; simp only [List.foldl_cons, List.foldl_nil, Nat.zero_mul, Nat.zero_add]
  show IntOp.andi (IntOp.cmpi .sge (iota .tc S512x512 32 [0] iota_S512x512_d0_w32 p) (BitVec.ofNat 32 lo)) (IntOp.cmpi .slt (iota .tc S512x512 32 [0] iota_S512x512_d0_w32 p) (BitVec.ofNat 32 hi)) = 1#1 ↔ _
  rw [hi0]
  show IntOp.andi (IntOp.cmpi .sge (BitVec.ofNat 32 (p 0).val) (BitVec.ofNat 32 lo)) (IntOp.cmpi .slt (BitVec.ofNat 32 (p 0).val) (BitVec.ofNat 32 hi)) = 1#1 ↔ _
  rw [cmpi_sge_eq, cmpi_slt_eq, andi_ofBool, ofBool_eq_one_iff, Bool.and_eq_true, decide_eq_true_iff, decide_eq_true_iff,
    toInt_ofNat_of_lt (by norm_num; omega), toInt_ofNat_of_lt (by norm_num; omega), toInt_ofNat_of_lt (by norm_num; omega)]
  omega

theorem cond_at (lo hi : ℕ) (hlo : lo ≤ 512) (hhi : hi ≤ 512) (hlt : lo < hi) : k0_cond2 (BitVec.ofNat 32 lo) (BitVec.ofNat 32 hi) = 1#1 := by
  unfold k0_cond2
  have e : IntOp.cmpi .sgt (BitVec.ofNat 32 hi) (BitVec.ofNat 32 lo) = 1#1 := by
    rw [cmpi_sgt_eq, ofBool_eq_one_iff, decide_eq_true_iff, toInt_ofNat_of_lt (by norm_num; omega), toInt_ofNat_of_lt (by norm_num; omega)]
    omega
  show Scalar.cmpi .ne (Scalar.extui (IntOp.cmpi .sgt (BitVec.ofNat 32 hi) (BitVec.ofNat 32 lo))) 0#32 = 1#1
  rw [e]; decide

section
variable (c : Dev nD)

/-- The value of a row tile's column block for one group. -/
def tileVal (n : Fin 32) (g : Fin 16) (hh : Fin 2) (k : Fin 5) : FVec F S512x512 .bf16 :=
  prodOf (lane0 (scaleOf (xb m c n))) (nib hh (wsl k (wb m c g))) (codesOf (xb m c n)) (ssl hh k (sb m c g))

variable (tf : Fin 48 → Fin 32) (gf : Fin 48 → Fin 16)

/-- One item: a row under its mask gets its value, another keeps what it had. -/
theorem item_at (t : Fin grid0.N) (lo hi : ℕ) (hlo : lo ≤ 512) (hhi : hi ≤ 512) (e2 : wd2 c (grid0.coords t) (tbl m 2) = BitVec.ofNat 32 lo)
    (e3 : wd3 c (grid0.coords t) (tbl m 3) = BitVec.ofNat 32 hi) (Y X : Vec F S512x5120 .bf16) (hR : ItemRel m tf gf c t Y X) (hh : Fin 2) (k : Fin 5) (p : S512x512.Idx) :
    osl hh k X p = if lo ≤ (p 0).val ∧ (p 0).val < hi then tileVal m c (tf (it t)) (gf (it t)) hh k p else osl hh k Y p := by
  unfold ItemRel OutRel at hR
  rw [e2, e3] at hR
  by_cases hc : k0_cond2 (BitVec.ofNat 32 lo) (BitVec.ofNat 32 hi) = 1#1
  · rw [if_pos hc] at hR
    rw [hR hh k, blockOf_at]
    by_cases hm : lo ≤ (p 0).val ∧ (p 0).val < hi
    · rw [if_pos hm, if_pos ((mask_at lo hi hlo hhi p).mpr hm)]; rfl
    · rw [if_neg hm, if_neg fun e => hm ((mask_at lo hi hlo hhi p).mp e)]
  · rw [if_neg hc] at hR
    rw [if_neg fun hm => hc (cond_at lo hi hlo hhi (by omega)), hR]

variable (a : (pcfg0 (F := F)).Adm)

/-- What is known of the items' schedule: their rows' bounds, that their tiles do not fall, where the output is written
    back, and that a row's group is one. -/
structure Plan (lo hi : Fin 48 → ℕ) (γ : ℕ → Fin 16) : Prop where
  lo_le : ∀ i, lo i ≤ 512
  hi_le : ∀ i, hi i ≤ 512
  w2 : ∀ t, wd2 c (grid0.coords t) (tbl m 2) = BitVec.ofNat 32 (lo (it t))
  w3 : ∀ t, wd3 c (grid0.coords t) (tbl m 3) = BitVec.ofNat 32 (hi (it t))
  mono : ∀ i i' : Fin 48, i.val ≤ i'.val → (tf i).val ≤ (tf i').val
  flush : ∀ t : Fin grid0.N, ((cfg0 a).win 3).flush t = true ↔ (t.val + 1 = grid0.N ∨ ∃ h' : t.val + 1 < grid0.N, tf (it ⟨t.val + 1, h'⟩) ≠ tf (it t))
  grp : ∀ (i : Fin 48) (r : ℕ), lo i ≤ r → r < hi i → gf i = γ (512 * (tf i).val + r)
  emb : ∀ (t : Fin grid0.N) (q : S512x5120.Idx), ((((cfg0 a).win 3).blk t).view.emb q : S16384x5120.Idx)
    = ValueIdx.ix2 (⟨512 * (tf (it t)).val + (q 0).val, by have := (tf (it t)).isLt; have h : (q 0).val < 512 := (q 0).isLt; omega⟩ : Fin 16384) (⟨(q 1).val, (q 1).isLt⟩ : Fin 5120)
  cover : ∀ (n : Fin 32) (r : ℕ), r < 512 → ∃ i, tf i = n ∧ lo i ≤ r ∧ r < hi i

variable {lo hi : Fin 48 → ℕ} {γ : ℕ → Fin 16} (hP : Plan m c tf gf a lo hi γ)
include hP

/-- Every row that an item up to `t` of `t`'s tile covers holds that item's value. -/
theorem leaves_at (n : ℕ) : ∀ (t : Fin grid0.N), t.val = n → ∀ (X : Vec F S512x5120 .bf16), (vdat m tf gf a c).Leaves 3 t X → ∀ i : Fin 48, i.val ≤ t.val → tf i = tf (it t) →
    ∀ (hh : Fin 2) (k : Fin 5) (p : S512x512.Idx), lo i ≤ (p 0).val → (p 0).val < hi i → osl hh k X p = tileVal m c (tf i) (gf i) hh k p := by
  induction n with
  | zero =>
    intro t ht X hX i hi' hti hh k p h1 h2
    obtain ⟨Y, hF, hR⟩ := hX
    have e : it t = i := Fin.ext ((it_val t).trans (by omega))
    have := item_at m c tf gf t (lo (it t)) (hi (it t)) (hP.lo_le _) (hP.hi_le _) (hP.w2 t) (hP.w3 t) Y X hR hh k p
    rw [e, if_pos ⟨h1, h2⟩] at this
    exact this
  | succ n ih =>
    intro t ht X hX i hi' hti hh k p h1 h2
    obtain ⟨Y, hF, hR⟩ := hX
    have key := item_at m c tf gf t (lo (it t)) (hi (it t)) (hP.lo_le _) (hP.hi_le _) (hP.w2 t) (hP.w3 t) Y X hR hh k p
    by_cases hm : lo (it t) ≤ (p 0).val ∧ (p 0).val < hi (it t)
    · rw [if_pos hm] at key
      rw [key, hP.grp i _ h1 h2, hP.grp (it t) _ hm.1 hm.2, hti]
    · rw [if_neg hm] at key
      rw [key]
      have hne : i.val ≠ t.val := fun e => hm (by
        have e' : it t = i := Fin.ext ((it_val t).trans e.symm)
        rw [e']; exact ⟨h1, h2⟩)
      have hlt : n < grid0.N := by have := t.isLt; omega
      have htn : (⟨n + 1, by have := t.isLt; omega⟩ : Fin grid0.N) = t := Fin.ext ht.symm
      have e1 : tf (it (⟨n, hlt⟩ : Fin grid0.N)) = tf (it t) := by
        refine Fin.ext (le_antisymm (hP.mono _ _ ?_) ?_)
        · rw [it_val, it_val]; show n ≤ t.val; omega
        · rw [← hti]; refine hP.mono _ _ ?_
          rw [it_val]; show i.val ≤ n; omega
      rcases ((vdat m tf gf a c).finds_of_pos (fetch3 a t) (by omega) Y).mp hF with hfl | hL
      · exfalso
        have e0 : (⟨t.val - 1, Nat.lt_of_le_of_lt (Nat.sub_le _ _) t.isLt⟩ : Fin grid0.N) = ⟨n, hlt⟩ := Fin.ext (by show t.val - 1 = n; omega)
        have hfl' : ((cfg0 a).win 3).flush (⟨n, hlt⟩ : Fin grid0.N) = true := e0 ▸ hfl
        rcases (hP.flush _).mp hfl' with h' | ⟨h', hn⟩
        · have := t.isLt
          have h'' : n + 1 = grid0.N := h'
          omega
        · exact hn ((congrArg (fun z => tf (it z)) htn).trans e1.symm)
      · have e0 : (⟨t.val - 1, Nat.lt_of_le_of_lt (Nat.sub_le _ _) t.isLt⟩ : Fin grid0.N) = ⟨n, hlt⟩ := Fin.ext (by show t.val - 1 = n; omega)
        have hL' : (vdat m tf gf a c).Leaves 3 (⟨n, hlt⟩ : Fin grid0.N) Y := e0 ▸ hL
        exact ih ⟨n, hlt⟩ rfl Y hL' i (by show i.val ≤ n; omega) (hti.trans e1.symm) hh k p h1 h2

/-- At a point that writes its block back, every item of its tile is at or before it. -/
theorem le_of_flush (t : Fin grid0.N) (hf : ((cfg0 a).win 3).flush t = true) (i : Fin 48) (hi : tf i = tf (it t)) : i.val ≤ t.val := by
  by_contra hlt
  rcases (hP.flush t).mp hf with h' | ⟨h', hn⟩
  · have h48 : grid0.N = 48 := rfl
    have := i.isLt; omega
  · refine hn (Fin.ext (le_antisymm ?_ (hP.mono _ _ ?_)))
    · rw [← hi]; refine hP.mono _ _ ?_
      rw [it_val]; show t.val + 1 ≤ i.val; omega
    · rw [it_val, it_val]; show t.val ≤ t.val + 1; omega

omit hP in
/-- A block's element, by its column block. -/
theorem osl_split (X : Vec F S512x5120 .bf16) (q : S512x5120.Idx) (h0 : (q 1).val / 2560 < 2) (h1 : (q 1).val % 2560 / 512 < 5) (h2 : (q 1).val % 512 < 512) (h3 : (q 0).val < 512) :
    X q = osl ⟨(q 1).val / 2560, h0⟩ ⟨(q 1).val % 2560 / 512, h1⟩ X (ValueIdx.ix2 (⟨(q 0).val, h3⟩ : Fin 512) (⟨(q 1).val % 512, h2⟩ : Fin 512)) := by
  refine congrArg X (funext fun x => Fin.ext ?_)
  revert x
  refine Fin.forall_fin_two.mpr ⟨?_, ?_⟩
  · show (q 0).val = 0 + 1 * (q 0).val
    omega
  · show (q 1).val = 2560 * ((q 1).val / 2560) + 512 * ((q 1).val % 2560 / 512) + 1 * ((q 1).val % 512)
    omega

omit hP in
/-- The output array: every element the value of its row tile, its row's group and its column block. -/
def outG (γ : ℕ → Fin 16) : S16384x5120.Idx → Elt F .bf16 := fun q =>
  tileVal m c ⟨(q 0).val / 512, by have h : (q 0).val < 16384 := (q 0).isLt; omega⟩ (γ (q 0).val)
    ⟨(q 1).val / 2560, by have h : (q 1).val < 5120 := (q 1).isLt; omega⟩ ⟨(q 1).val % 2560 / 512, by omega⟩
    (ValueIdx.ix2 (⟨(q 0).val % 512, by omega⟩ : Fin 512) (⟨(q 1).val % 512, by omega⟩ : Fin 512))

omit hP in
theorem outG_at (γ : ℕ → Fin 16) (n : Fin 32) (r : ℕ) (hr : r < 512) (j : Fin 5120) (h1 : 512 * n.val + r < 16384) (h0 : j.val / 2560 < 2) (h2 : j.val % 2560 / 512 < 5) (h3 : j.val % 512 < 512) :
    outG m c γ (ValueIdx.ix2 (⟨512 * n.val + r, h1⟩ : Fin 16384) j) = tileVal m c n (γ (512 * n.val + r)) ⟨j.val / 2560, h0⟩ ⟨j.val % 2560 / 512, h2⟩ (ValueIdx.ix2 (⟨r, hr⟩ : Fin 512) (⟨j.val % 512, h3⟩ : Fin 512)) := by
  have e1 : (512 * n.val + r) / 512 = n.val := by omega
  have e2 : (512 * n.val + r) % 512 = r := by omega
  have f1 : (⟨(512 * n.val + r) / 512, by omega⟩ : Fin 32) = n := Fin.ext e1
  have f2 : (⟨(512 * n.val + r) % 512, by omega⟩ : Fin 512) = ⟨r, hr⟩ := Fin.ext e2
  show tileVal m c (⟨(512 * n.val + r) / 512, _⟩ : Fin 32) (γ (512 * n.val + r)) ⟨j.val / 2560, _⟩ ⟨j.val % 2560 / 512, _⟩ (ValueIdx.ix2 (⟨(512 * n.val + r) % 512, _⟩ : Fin 512) (⟨j.val % 512, _⟩ : Fin 512)) = _
  rw [f1, f2]

theorem left_at (t : Fin grid0.N) (hf : ((cfg0 a).win 3).flush t = true) (X : Vec F S512x5120 .bf16) (hX : (vdat m tf gf a c).Leaves 3 t X) (y : S512x5120.Idx) :
    X y = outG m c γ ((((cfg0 a).win 3).blk t).view.emb y : S16384x5120.Idx) := by
  have hy0 : (y 0).val < 512 := (y 0).isLt
  have hy1 : (y 1).val < 5120 := (y 1).isLt
  rw [hP.emb t y, outG_at m c γ (tf (it t)) (y 0).val hy0 ⟨(y 1).val, hy1⟩ _ (by show (y 1).val / 2560 < 2; omega) (by show (y 1).val % 2560 / 512 < 5; omega) (by show (y 1).val % 512 < 512; omega)]
  obtain ⟨i, hi, h1, h2⟩ := hP.cover (tf (it t)) (y 0).val hy0
  rw [osl_split X y (by omega) (by omega) (by omega) hy0]
  have := leaves_at m c tf gf a hP t.val t rfl X hX i (le_of_flush m c tf gf a hP t hf i hi) hi ⟨(y 1).val / 2560, by omega⟩ ⟨(y 1).val % 2560 / 512, by omega⟩
    (ValueIdx.ix2 (⟨(y 0).val, hy0⟩ : Fin 512) (⟨(y 1).val % 512, by omega⟩ : Fin 512)) h1 h2
  rw [this, hP.grp i _ h1 h2, hi]

/-- Every tile is written back at some point. -/
theorem exists_flush (n : Fin 32) : ∃ t : Fin grid0.N, ((cfg0 a).win 3).flush t = true ∧ tf (it t) = n := by
  obtain ⟨i, hi, -, -⟩ := hP.cover n 0 (by omega)
  have hne : (Finset.univ.filter fun t : Fin grid0.N => tf (it t) = n).Nonempty := by
    refine ⟨⟨i.val, i.isLt⟩, Finset.mem_filter.mpr ⟨Finset.mem_univ _, ?_⟩⟩
    have e : it (⟨i.val, i.isLt⟩ : Fin grid0.N) = i := Fin.ext (it_val _)
    rw [e]; exact hi
  obtain ⟨t, ht, hmax⟩ := Finset.exists_max_image _ (fun t : Fin grid0.N => t.val) hne
  rw [Finset.mem_filter] at ht
  refine ⟨t, (hP.flush t).mpr ?_, ht.2⟩
  by_cases hN : t.val + 1 = grid0.N
  · exact .inl hN
  · have hlt : t.val + 1 < grid0.N := by have := t.isLt; omega
    refine .inr ⟨hlt, fun e => ?_⟩
    have := hmax ⟨t.val + 1, hlt⟩ (Finset.mem_filter.mpr ⟨Finset.mem_univ _, e.trans ht.2⟩)
    have h' : t.val + 1 ≤ t.val := this
    omega

theorem covered (q : S16384x5120.Idx) : ∃ t : Fin grid0.N, ((cfg0 a).win 3).flush t = true ∧ q ∈ (((cfg0 a).win 3).blk t).view.set := by
  have hq : (q 0).val < 16384 := (q 0).isLt
  obtain ⟨t, hf, ht⟩ := exists_flush m c tf gf a hP ⟨(q 0).val / 512, by omega⟩
  refine ⟨t, hf, ?_⟩
  have e : q = ((((cfg0 a).win 3).blk t).view.emb (ValueIdx.ix2 (⟨(q 0).val % 512, by omega⟩ : Fin 512) (⟨(q 1).val, (q 1).isLt⟩ : Fin 5120) : S512x5120.Idx) : S16384x5120.Idx) := by
    have hv : (tf (it t)).val = (q 0).val / 512 := congrArg Fin.val ht
    rw [hP.emb]
    refine funext fun x => Fin.ext ?_
    revert x
    refine Fin.forall_fin_two.mpr ⟨?_, ?_⟩
    · show (q 0).val = 512 * (tf (it t)).val + (q 0).val % 512
      omega
    · rfl
  rw [e]
  exact View.emb_mem_set _ _

/-- Any exact data whose output blocks the items may have left end the array at `outG`. -/
theorem array_eq (after : (w : Fin (cfg0 a).W) → Fin (cfg0 a).N → ((cfg0 a).win w).block.Idx → Elt F ((cfg0 a).win w).elt)
    (hL : ∀ (u : Fin (cfg0 a).N), ((cfg0 a).win 3).flush u = true → (vdat m tf gf a c).Leaves 3 u (after 3 u)) :
    (((vdat m tf gf a c).withAfter after).arrAt 3 (cfg0 a).N : S16384x5120.Idx → Elt F .bf16) = outG m c γ :=
  ((vdat m tf gf a c).withAfter after).arrAt_eq_of_emb 3 (outG m c γ) (fun t hf y => left_at m c tf gf a hP t hf (after 3 t) (hL t hf) y) (covered m c tf gf a hP)

end

section
variable {f : ℕ → ℕ} (h : Tables.Holds (sizes m 0) f) (hf : Tables.P f 16 = 16384)

theorem sched (a : (pcfg0 (F := F)).Adm) (ha : a.1 = tbl m) (hs : Tables.P f 16 ≤ 16384) : Sched m (tl m h hs) (gr m h hs) a where
  x c t := iblk0 m h hs a ha c t
  w c t := iblk1 m h hs a ha c t
  s c t := iblk2 m h hs a ha c t
  same c t i ht hn := Fin.ext (not_fresh m h hs c t i ht hn)

theorem lo_le (gs : IVec S16 32) (f : ℕ → ℕ) (i : Fin 48) : Tables.loN gs f i ≤ 512 := by
  unfold Tables.loN; omega
theorem hi_le (gs : IVec S16 32) (f : ℕ → ℕ) (i : Fin 48) : Tables.hiN gs f i ≤ 512 := by
  unfold Tables.hiN
  split
  · omega
  · exact lo_le gs f i

theorem plan (c : Dev nD) (a : (pcfg0 (F := F)).Adm) (ha : a.1 = tbl m) (hs : Tables.P f 16 ≤ 16384) (hf : Tables.P f 16 = 16384) (γ : ℕ → Fin 16)
    (hγ : ∀ r, r < 16384 → Tables.P f (γ r).val ≤ r ∧ r < Tables.P f ((γ r).val + 1)) :
    Plan m c (tl m h hs) (gr m h hs) a (Tables.loN (sizes m 0) f) (Tables.hiN (sizes m 0) f) γ where
  lo_le i := lo_le _ _ i
  hi_le i := hi_le _ _ i
  w2 t := word2 m h hs c t
  w3 t := word3 m h hs c t
  mono i i' hi := Tables.tileN_mono h hs i i' hi
  flush t := (flush3 m h hs a ha t).trans (or_congr Iff.rfl (exists_congr fun h' => not_congr ⟨fun e => Fin.ext e, fun e => congrArg Fin.val e⟩))
  grp i r h1 h2 := by
    have h3 := Tables.row_group h hs i r h1 h2
    have h4 := hi_le (sizes m 0) f i
    have h5 := Tables.tileN_lt h hs i
    have h6 := hγ (512 * (tl m h hs i).val + r) (by show 512 * Tables.tileN (sizes m 0) f i + r < 16384; omega)
    have e : Tables.tileN (sizes m 0) f i * 512 + r = 512 * (tl m h hs i).val + r := by
      show Tables.tileN (sizes m 0) f i * 512 + r = 512 * Tables.tileN (sizes m 0) f i + r
      omega
    rw [e] at h3
    exact Fin.ext (Tables.group_unique h3.1 h3.2 h6.1 h6.2)
  emb t q := emb3 m h hs a ha t q
  cover n r hr := by
    obtain ⟨i, e, h1, h2⟩ := Tables.row_item h hs hf (512 * n.val + r) (by have := n.isLt; omega)
    have e1 : (512 * n.val + r) / 512 = n.val := by omega
    have e2 : (512 * n.val + r) % 512 = r := by omega
    rw [e2] at h1 h2
    exact ⟨i, Fin.ext (e.trans e1), h1, h2⟩

include h in
set_option backward.isDefEq.respectTransparency.types false in
/-- THE VALUE OF THE KERNEL, at any float instance: the output array ends at `outG`, and the arguments as they were. -/
theorem run_value (hs : Tables.P f 16 ≤ 16384) (hf : Tables.P f 16 = 16384) (γ : ℕ → Fin 16)
    (hγ : ∀ r, r < 16384 → Tables.P f (γ r).val ≤ r ∧ r < Tables.P f ((γ r).val + 1)) :
    θ_run defs (onTc (τ := τ) (main (F := F))) ⟨m, fun _ => 0, ρ⟩ (fun r => ∀ c : Dev nD,
      r.2.mem ((c.tc : Thread nD τ).loc main_v75) = outG m c γ) :=
  (θ_run defs _ _).mono (fun r hr c => by
    obtain ⟨after, hL, hA⟩ := Pipeline.RDat.FramePost.exists_exact hr.1 c
    exact (hA 3).trans (array_eq m c _ _ (adm m (ok_of_fits h hs)) (plan m h c (adm m (ok_of_fits h hs)) rfl hs hf γ hγ) after (fun u hu => hL 3 u hu)))
    (run_items m ρ (tl m h hs) (gr m h hs) (ok_of_fits h hs) (sched m h (adm m (ok_of_fits h hs)) rfl hs))

end

end Cert.KernelIdeal.Run
-- ==== Proof.Scales.lean ====
module

public import Idealize.ShloMosaic.Lib.Pipeline.Value
public import Idealize.ShloMosaic.Lib.ValueIdx
public import Idealize.ShloMosaic.Lib.WordCmp
public import Idealize.ShloMosaic.PureOps.Ideal.Laws
public import Mathlib.Analysis.SpecialFunctions.Log.Basic

@[expose] public section

noncomputable section

namespace Cert.Scales

open Idealize.ShloMosaic Idealize.ShloMosaic.WordCmp
open scoped BigOperators

/-! ## Powers of two, by their words -/

/-- The value whose exponent field is `n`. -/
def pw (n : ℕ) : EReal := Ideal.ofBits .f32 (BitVec.ofNat 32 n <<< 23)

theorem fields : ∀ n : Fin 256, ((BitVec.ofNat 32 n.val <<< 23).extractLsb' 23 8).toNat = n.val
    ∧ ((BitVec.ofNat 32 n.val <<< 23).extractLsb' 0 23).toNat = 0 ∧ ((BitVec.ofNat 32 n.val <<< 23).extractLsb' 31 1 == 1#1) = false := by
  decide +kernel

/-- A pattern by its three fields. -/
theorem by_fields (b : BitVec 32) (ex fr : ℕ) (sg : Bool) (e1 : (b.extractLsb' 23 8).toNat = ex) (e2 : (b.extractLsb' 0 23).toNat = fr)
    (e3 : (b.extractLsb' 31 1 == 1#1) = sg) :
    Ideal.ofBits .f32 b = if ex = 255 then (if fr = 0 then (if sg then ⊥ else ⊤) else ⊥)
      else if ex = 0 then (((if sg then -1 else 1 : ℝ) * fr * (2 : ℝ) ^ (1 - 127 - 23 : ℤ) : ℝ) : EReal)
      else (((if sg then -1 else 1 : ℝ) * (2 ^ 23 + fr : ℕ) * (2 : ℝ) ^ ((ex : ℤ) - 127 - 23) : ℝ) : EReal) := by
  subst e1 e2 e3
  unfold Ideal.ofBits Ideal.ieee
  norm_num only

theorem pw_mid (n : ℕ) (h0 : 1 ≤ n) (h1 : n ≤ 254) : pw n = (((2 : ℝ) ^ ((n : ℤ) - 127) : ℝ) : EReal) := by
  have e := fields ⟨n, by omega⟩
  refine (by_fields _ n 0 false e.1 e.2.1 e.2.2).trans ?_
  rw [if_neg (by omega), if_neg (by omega)]
  congr 1
  have h2 : (2 : ℝ) ^ ((n : ℤ) - 127 - 23) = (2 : ℝ) ^ ((n : ℤ) - 127) * ((2 : ℝ) ^ (23 : ℕ))⁻¹ := by
    rw [sub_eq_add_neg, zpow_add₀ (by norm_num : (2 : ℝ) ≠ 0)]
    congr 1
  rw [h2]
  simp
  field_simp
  norm_num

theorem pw_top : pw 255 = ⊤ := by
  have e := fields ⟨255, by omega⟩
  refine (by_fields _ 255 0 false e.1 e.2.1 e.2.2).trans ?_
  simp

theorem pw_one : pw 127 = ((1 : ℝ) : EReal) := by
  rw [pw_mid 127 (by omega) (by omega)]; norm_num

/-! ## The search for the exponent field -/

/-- One step of the search. -/
def stp (y : EReal) (k b : BitVec 32) : BitVec 32 :=
  if Ideal.cmp .oge y (Ideal.ofBits .f32 ((b + k) <<< 23)) = 1#1 then b + k else b

/-- The eight steps. -/
def search (y : EReal) : BitVec 32 :=
  stp y 1#32 (stp y 2#32 (stp y 4#32 (stp y 8#32 (stp y 16#32 (stp y 32#32 (stp y 64#32 (stp y 128#32 0#32)))))))

/-- What the search keeps: `b` is `n`, reached by `y`, and `n + w` is not. -/
def Inv (y : EReal) (w : ℕ) (b : BitVec 32) : Prop :=
  ∃ n : ℕ, b = BitVec.ofNat 32 n ∧ n + w ≤ 256 ∧ (n = 0 ∨ pw n ≤ y) ∧ (n + w = 256 ∨ y < pw (n + w))

theorem inv_step {y : EReal} {w : ℕ} {b : BitVec 32} (h : Inv y (w + w) b) : Inv y w (stp y (BitVec.ofNat 32 w) b) := by
  obtain ⟨n, rfl, h1, h2, h3⟩ := h
  have e : BitVec.ofNat 32 n + BitVec.ofNat 32 w = BitVec.ofNat 32 (n + w) := (BitVec.ofNat_add _ _).symm
  unfold stp
  rw [e]
  have hc : Ideal.cmp .oge y (Ideal.ofBits .f32 (BitVec.ofNat 32 (n + w) <<< 23)) = 1#1 ↔ pw (n + w) ≤ y := by
    unfold Ideal.cmp
    exact (ofBool_decide_eq_one_iff _)
  by_cases hy : pw (n + w) ≤ y
  · rw [if_pos (hc.2 hy)]
    exact ⟨n + w, rfl, by omega, Or.inr hy, h3.imp (fun h => by omega) (fun h => by rwa [Nat.add_assoc])⟩
  · rw [if_neg (fun h => hy (hc.1 h))]
    exact ⟨n, rfl, by omega, h2, Or.inr (not_le.1 hy)⟩

theorem search_inv (y : EReal) : ∃ n : ℕ, search y = BitVec.ofNat 32 n ∧ n ≤ 255 ∧ (n = 0 ∨ pw n ≤ y) ∧ (n = 255 ∨ y < pw (n + 1)) := by
  have h : Inv y 256 0#32 := ⟨0, rfl, by omega, Or.inl rfl, Or.inl rfl⟩
  obtain ⟨n, h1, h2, h3, h4⟩ := (inv_step (w := 1) (inv_step (w := 2) (inv_step (w := 4) (inv_step (w := 8) (inv_step (w := 16)
    (inv_step (w := 32) (inv_step (w := 64) (inv_step (w := 128) h))))))) : Inv y 1 (search y))
  exact ⟨n, h1, by omega, h3, h4.imp (fun h => by omega) id⟩

/-- The kernel's exponent of a row. -/
def ex (b : BitVec 32) : BitVec 32 := if (IntOp.ori (IntOp.cmpi .eq b 0#32) (IntOp.cmpi .eq b 255#32)) = 1#1 then 0#32 else b - 126#32
/-- The kernel's scale of a row. -/
def kSc (y : EReal) : EReal := Ideal.ofBits .f32 ((ex (search y) + 127#32) <<< 23)
/-- The kernel's inverse scale of a row. -/
def kInv (y : EReal) : EReal := Ideal.ofBits .f32 ((127#32 - ex (search y)) <<< 23)

theorem ex_words : ∀ n : Fin 256, (n.val = 0 ∨ n.val = 255 → ex (BitVec.ofNat 32 n.val) + 127#32 = 127#32 ∧ 127#32 - ex (BitVec.ofNat 32 n.val) = 127#32)
    ∧ (1 ≤ n.val ∧ n.val ≤ 252 → ex (BitVec.ofNat 32 n.val) + 127#32 = BitVec.ofNat 32 (n.val + 1) ∧ 127#32 - ex (BitVec.ofNat 32 n.val) = BitVec.ofNat 32 (253 - n.val)) := by
  decide +kernel

/-- The constant near 1/448. -/
def cst : ℝ := 9586981 / 2 ^ 32

theorem cst_val : Ideal.ofBits .f32 0x3B124925#32 = (cst : EReal) := by
  rw [by_fields _ 118 1198373 false rfl rfl rfl]
  norm_num [cst]

theorem cst_pos : 0 < cst := by unfold cst; norm_num
theorem cst_ge : 1 ≤ cst * 448 := by unfold cst; norm_num

theorem v448 : Ideal.ofBits .f32 0x43E00000#32 = ((448 : ℝ) : EReal) := by
  rw [by_fields _ 135 6291456 false rfl rfl rfl]
  norm_num
theorem vm448 : Ideal.ofBits .f32 0xC3E00000#32 = ((-448 : ℝ) : EReal) := by
  rw [by_fields _ 135 6291456 true rfl rfl rfl]
  norm_num
theorem v_top : Ideal.ofBits .f32 0x7F800000#32 = ⊤ := by
  rw [by_fields _ 255 0 false rfl rfl rfl]
  norm_num
theorem v_bot : Ideal.ofBits .f32 0xFF800000#32 = ⊥ := by
  rw [by_fields _ 255 0 true rfl rfl rfl]
  norm_num
theorem v_one : Ideal.ofBits .f32 0x3F800000#32 = ((1 : ℝ) : EReal) := by
  rw [by_fields _ 127 0 false rfl rfl rfl]
  norm_num
theorem v_two : Ideal.ofBits .f32 0x40000000#32 = ((2 : ℝ) : EReal) := by
  rw [by_fields _ 128 0 false rfl rfl rfl]
  norm_num
/-- The largest finite value of the format. -/
def big : ℝ := 255 * 2 ^ 120
theorem v_big : Ideal.ofBits .f32 0x7F7F0000#32 = (big : EReal) := by
  rw [by_fields _ 254 8323072 false rfl rfl rfl]
  norm_num [big]

/-- Two scales fit a bound `a`: the second is a positive power and `a` is at most 448 of it. -/
def Fits (a : ℝ) (inv sc : EReal) : Prop := ∃ p : ℝ, 0 < p ∧ inv = ((p⁻¹ : ℝ) : EReal) ∧ sc = (p : EReal) ∧ a ≤ 448 * p

theorem fits_of_lt {a p : ℝ} (ha : 0 ≤ a) (h : a * cst < p) : a ≤ 448 * p := by
  have := cst_ge
  nlinarith

theorem kernel_fits (a : ℝ) (h0 : 0 ≤ a) (h1 : a ≤ big) : Fits a (kInv ((a : EReal) * (cst : EReal))) (kSc ((a : EReal) * (cst : EReal))) := by
  rw [← EReal.coe_mul]
  obtain ⟨n, e, hn, h2, h3⟩ := search_inv ((a * cst : ℝ) : EReal)
  have hy : a * cst < 2 ^ 120 := by
    unfold big at h1; unfold cst; norm_num at h1 ⊢; linarith
  have h246 : n ≤ 246 := by
    by_contra hc
    rcases h2 with h2 | h2
    · omega
    · have : n = 255 ∨ n ≤ 254 := by omega
      rcases this with rfl | h5
      · rw [pw_top] at h2; exact absurd h2 (not_le.2 (EReal.coe_lt_top _))
      · rw [pw_mid n (by omega) h5, EReal.coe_le_coe_iff] at h2
        have : (2 : ℝ) ^ (120 : ℤ) ≤ (2 : ℝ) ^ ((n : ℤ) - 127) := zpow_le_zpow_right₀ (by norm_num) (by omega)
        norm_num at this hy h2
        linarith
  unfold kInv kSc
  rw [e]
  rcases h3 with h3 | h3
  · omega
  rw [pw_mid (n + 1) (by omega) (by omega), EReal.coe_lt_coe_iff] at h3
  have w := ex_words ⟨n, by omega⟩
  dsimp only at w
  by_cases hz : n = 0
  · obtain ⟨w1, w2⟩ := w.1 (Or.inl hz)
    rw [w1, w2]
    refine ⟨1, one_pos, ?_, pw_one, ?_⟩
    · rw [inv_one]; exact pw_one
    · refine fits_of_lt h0 (h3.trans_le ?_)
      rw [hz]
      exact zpow_le_one_of_nonpos₀ (by norm_num) (by norm_num)
  · obtain ⟨w1, w2⟩ := w.2 ⟨by omega, by omega⟩
    rw [w1, w2]
    refine ⟨(2 : ℝ) ^ (((n + 1 : ℕ) : ℤ) - 127), by positivity, ?_, pw_mid (n + 1) (by omega) (by omega), fits_of_lt h0 h3⟩
    refine (pw_mid (253 - n) (by omega) (by omega)).trans ?_
    rw [← zpow_neg]
    congr 2
    omega

theorem kernel_top : kInv ⊤ = ((1 : ℝ) : EReal) ∧ kSc ⊤ = ((1 : ℝ) : EReal) := by
  obtain ⟨n, e, hn, h2, h3⟩ := search_inv ⊤
  have h255 : n = 255 := by
    rcases h3 with h3 | h3
    · exact h3
    · exact absurd h3 not_top_lt
  unfold kInv kSc
  rw [e]
  obtain ⟨w1, w2⟩ := (ex_words ⟨n, by omega⟩).1 (Or.inr h255)
  dsimp only at w1 w2
  rw [w1, w2]
  exact ⟨pw_one, pw_one⟩

/-! ## The reference's exponent -/

/-- The reference's exponent of a row whose greatest magnitude is `a`. -/
def rE (a : EReal) : EReal :=
  if IntOp.ori (Ideal.cmp .oeq a (Ideal.ofBits .f32 0x00000000#32)) (Ideal.cmp .oeq a (Ideal.ofBits .f32 0x7F800000#32)) = 1#1
    then Ideal.ofBits .f32 0x00000000#32
    else Ideal.liftRound Int.floor (Ideal.div (Ideal.log (a * Ideal.ofBits .f32 0x3B124925#32)) (Ideal.log (Ideal.ofBits .f32 0x40000000#32)))
      + Ideal.ofBits .f32 0x3F800000#32
/-- The reference's scale. -/
def rSc (a : EReal) : EReal := Ideal.exp2 (rE a)
/-- The reference's inverse scale. -/
def rInv (a : EReal) : EReal := Ideal.exp2 (Ideal.ofBits .f32 0x00000000#32 - rE a)

theorem rE_zero (a : EReal) (h : a = 0 ∨ a = ⊤) : rE a = 0 := by
  unfold rE
  rw [Ideal.ofBits_zero_f32, v_top]
  unfold Ideal.cmp
  rw [ori_ofBool, if_pos]
  rcases h with h | h <;> simp [h]

theorem exp2_zero : Ideal.exp2 0 = ((1 : ℝ) : EReal) := by
  rw [← EReal.coe_zero, Ideal.exp2_coe]
  simp

theorem ref_one (a : EReal) (h : a = 0 ∨ a = ⊤) : rInv a = ((1 : ℝ) : EReal) ∧ rSc a = ((1 : ℝ) : EReal) := by
  unfold rInv rSc
  rw [rE_zero a h, Ideal.ofBits_zero_f32, sub_zero, exp2_zero]
  exact ⟨rfl, rfl⟩

theorem rE_pos (a : ℝ) (h : 0 < a) : rE (a : EReal) = (((⌊Real.log (a * cst) / Real.log 2⌋ : ℝ) + 1 : ℝ) : EReal) := by
  unfold rE
  rw [Ideal.ofBits_zero_f32, v_top, cst_val, v_two, v_one, ← EReal.coe_mul]
  have hy : 0 < a * cst := mul_pos h cst_pos
  have hl : Real.log 2 ≠ 0 := (Real.log_pos (by norm_num)).ne'
  have e1 : Ideal.log ((a * cst : ℝ) : EReal) = (Real.log (a * cst) : EReal) := if_neg (not_le.2 hy)
  have e2 : Ideal.log ((2 : ℝ) : EReal) = (Real.log 2 : EReal) := if_neg (by norm_num)
  rw [e1, e2]
  have e3 : Ideal.div (Real.log (a * cst) : EReal) (Real.log 2 : EReal) = ((Real.log (a * cst) / Real.log 2 : ℝ) : EReal) := by
    unfold Ideal.div
    rw [if_neg (fun h => hl (EReal.coe_eq_zero.1 h)), ← EReal.coe_inv, ← EReal.coe_mul, div_eq_mul_inv]
  rw [e3]
  unfold Ideal.cmp
  rw [ori_ofBool, if_neg, EReal.coe_add]
  · rfl
  · simp [h.ne']

theorem ref_fits (a : ℝ) (h0 : 0 ≤ a) : Fits a (rInv a) (rSc a) := by
  rcases h0.eq_or_lt with rfl | h
  · obtain ⟨e1, e2⟩ := ref_one ((0 : ℝ) : EReal) (Or.inl rfl)
    rw [e1, e2]
    exact ⟨1, one_pos, by rw [inv_one], rfl, by norm_num⟩
  · unfold rInv rSc
    rw [rE_pos a h, Ideal.ofBits_zero_f32, zero_sub, ← EReal.coe_neg, Ideal.exp2_coe, Ideal.exp2_coe]
    have hl : 0 < Real.log 2 := Real.log_pos (by norm_num)
    have hy : 0 < a * cst := mul_pos h cst_pos
    refine ⟨(2 : ℝ) ^ ((⌊Real.log (a * cst) / Real.log 2⌋ : ℝ) + 1), by positivity, ?_, rfl, fits_of_lt h0 ?_⟩
    · congr 1
      exact Real.rpow_neg (by norm_num) _
    · rw [← Real.log_lt_log_iff hy (by positivity), Real.log_rpow (by norm_num)]
      have := Int.lt_floor_add_one (Real.log (a * cst) / Real.log 2)
      rwa [div_lt_iff₀ hl] at this

/-! ## A row against a column -/

/-- A scaled row times a column, scaled back. -/
def dot {K : ℕ} (x w : Fin K → EReal) (inv sc : EReal) : EReal :=
  (∑ k, min (Ideal.ofBits .f32 0x43E00000#32) (max (Ideal.ofBits .f32 0xC3E00000#32) (x k * inv)) * w k) * sc

theorem coe_sum {K : ℕ} (f : Fin K → ℝ) : ((∑ k, f k : ℝ) : EReal) = ∑ k, (f k : EReal) := by
  induction (Finset.univ : Finset (Fin K)) using Finset.cons_induction with
  | empty => simp
  | cons a s ha ih => rw [Finset.sum_cons, Finset.sum_cons, EReal.coe_add, ih]

theorem dot_of_fits {K : ℕ} (x w : Fin K → ℝ) (a : ℝ) (inv sc : EReal) (hx : ∀ k, |x k| ≤ a) (h : Fits a inv sc) :
    dot (fun k => (x k : EReal)) (fun k => (w k : EReal)) inv sc = ((∑ k, x k * w k : ℝ) : EReal) := by
  obtain ⟨p, hp, rfl, rfl, ha⟩ := h
  unfold dot
  have e : ∀ k, min (Ideal.ofBits .f32 0x43E00000#32) (max (Ideal.ofBits .f32 0xC3E00000#32) ((x k : EReal) * ((p⁻¹ : ℝ) : EReal))) * (w k : EReal)
      = ((x k * p⁻¹ * w k : ℝ) : EReal) := by
    intro k
    have h1 := abs_le.1 ((hx k).trans ha)
    have h2 : -448 ≤ x k * p⁻¹ := by rw [← div_eq_mul_inv, le_div_iff₀ hp]; linarith
    have h3 : x k * p⁻¹ ≤ 448 := by rw [← div_eq_mul_inv, div_le_iff₀ hp]; linarith
    rw [v448, vm448, ← EReal.coe_mul, max_eq_right (EReal.coe_le_coe_iff.2 h2), min_eq_right (EReal.coe_le_coe_iff.2 h3), ← EReal.coe_mul]
  rw [Finset.sum_congr rfl (fun k _ => e k), ← coe_sum, ← EReal.coe_mul, Finset.sum_mul]
  congr 1
  refine Finset.sum_congr rfl fun k _ => ?_
  field_simp

/-- THE EQUATION: the two ways to scale a row give one product. -/
theorem dot_eq {K : ℕ} (x w : Fin K → EReal) (wr : Fin K → ℝ) (a : EReal) (hw : ∀ k, w k = (wr k : EReal)) (ha : ∀ k, max (x k) (-(x k)) ≤ a)
    (h0 : 0 ≤ a) (hb : a ≤ (big : EReal) ∨ a = ⊤) :
    dot x w (kInv (a * Ideal.ofBits .f32 0x3B124925#32)) (kSc (a * Ideal.ofBits .f32 0x3B124925#32)) = dot x w (rInv a) (rSc a) := by
  obtain rfl : w = fun k => (wr k : EReal) := funext hw
  rw [cst_val]
  rcases hb with hb | rfl
  · lift a to ℝ using ⟨ne_top_of_le_ne_top (EReal.coe_ne_top _) hb, ne_bot_of_le_ne_bot (by simp) h0⟩
    have hf : ∀ k, ∃ r : ℝ, x k = (r : EReal) := fun k => by
      have h1 : x k ≠ ⊤ := fun e => by have := ha k; rw [e] at this; simp at this
      have h2 : x k ≠ ⊥ := fun e => by have := ha k; rw [e] at this; simp at this
      exact ⟨(x k).toReal, (EReal.coe_toReal h1 h2).symm⟩
    choose xr hxr using hf
    obtain rfl : x = fun k => (xr k : EReal) := funext hxr
    have hx : ∀ k, |xr k| ≤ a := fun k => by
      have := ha k
      rw [max_le_iff, ← EReal.coe_neg, EReal.coe_le_coe_iff, EReal.coe_le_coe_iff] at this
      exact abs_le'.2 this
    have h0' : 0 ≤ a := by rwa [← EReal.coe_zero, EReal.coe_le_coe_iff] at h0
    rw [dot_of_fits xr wr a _ _ hx (kernel_fits a h0' (EReal.coe_le_coe_iff.1 hb)), dot_of_fits xr wr a _ _ hx (ref_fits a h0')]
  · rw [EReal.top_mul_coe_of_pos cst_pos, kernel_top.1, kernel_top.2, (ref_one ⊤ (Or.inr rfl)).1, (ref_one ⊤ (Or.inr rfl)).2]

end Cert.Scales

end
-- ==== Proof.RowOps.lean ====
module

public import proofs.«01_k».proof.Proof.Scales
public import Idealize.ShloMosaic.Lib.MatmulPlain
public import Idealize.ShloMosaic.Lib.BitcastFour

@[expose] public section

noncomputable section

namespace Cert.RowOps

open Idealize.ShloMosaic Idealize.ShloMosaic.WordCmp Idealize.ShloMosaic.ValueIdx
open scoped BigOperators

/-! ## Layout operations at an index -/

theorem col_bcast {α : Type} {M N : ℕ} (x : (⟨2, ![M, 1]⟩ : Shape).Idx → α) (h : (⟨2, ![M, 1]⟩ : Shape).Broadcasts ⟨2, ![M, N]⟩) (r : Fin M) (c : Fin N) :
    broadcastTo ⟨2, ![M, N]⟩ x h (ix2 r c) = x (ix2 r (0 : Fin 1)) := by
  refine broadcastTo_apply x h _ _ fun a => ?_
  have hr := r.isLt
  match a with
  | ⟨0, _⟩ => show r.val = if M = 1 then 0 else r.val; split <;> omega
  | ⟨1, _⟩ => rfl

theorem row_bcast {α : Type} {M N : ℕ} (x : (⟨2, ![1, N]⟩ : Shape).Idx → α) (h : (⟨2, ![1, N]⟩ : Shape).Broadcasts ⟨2, ![M, N]⟩) (r : Fin M) (c : Fin N) :
    broadcastTo ⟨2, ![M, N]⟩ x h (ix2 r c) = x (ix2 (0 : Fin 1) c) := by
  refine broadcastTo_apply x h _ _ fun a => ?_
  have hr := c.isLt
  match a with
  | ⟨0, _⟩ => rfl
  | ⟨1, _⟩ => show c.val = if N = 1 then 0 else c.val; split <;> omega

theorem drop_unit {α : Type} {K N : ℕ} (x : (⟨3, ![1, K, N]⟩ : Shape).Idx → α) (h : (⟨3, ![1, K, N]⟩ : Shape).ShapeCasts ⟨2, ![K, N]⟩) (k : Fin K) (c : Fin N) :
    shapeCast ⟨2, ![K, N]⟩ x h (ix2 k c) = x (ix3 (0 : Fin 1) k c) := by
  refine (shapeCast_dropUnit_apply ![K, N] x h (ix2 k c)).trans (congrArg x (funext fun a => ?_))
  match a with
  | ⟨0, _⟩ => rfl
  | ⟨1, _⟩ => rfl
  | ⟨2, _⟩ => rfl

theorem add_col {α : Type} {M : ℕ} (x : (⟨1, ![M]⟩ : Shape).Idx → α) (h : (⟨1, ![M]⟩ : Shape).ShapeCasts ⟨2, ![M, 1]⟩) (r : Fin M) :
    shapeCast ⟨2, ![M, 1]⟩ x h (ix2 r (0 : Fin 1)) = x (ix1 r) := by
  refine shapeCast_apply x h _ _ ?_
  show (Shape.rowMajorPi ![M] (ix1 r)).val = (Shape.rowMajorPi ![M, 1] (ix2 r (0 : Fin 1))).val
  simp only [Shape.rowMajorPi_succ_val]
  show _ = r.val * 1 + 0
  simp
  rfl

/-- The greatest magnitude of a row. -/
def rowMax {K : ℕ} (x : Fin K → EReal) : EReal := Finset.univ.fold max ⊥ fun k => max (x k) (-(x k))

theorem le_rowMax {K : ℕ} (x : Fin K → EReal) (k : Fin K) : max (x k) (-(x k)) ≤ rowMax x :=
  Finset.le_fold_max _ |>.2 (Or.inr ⟨k, Finset.mem_univ k, le_rfl⟩)

theorem max_neg_nonneg (a : EReal) : 0 ≤ max a (-a) := by
  rcases le_total 0 a with h | h
  · exact le_max_of_le_left h
  · exact le_max_of_le_right (EReal.le_neg_of_le_neg (by simpa using h))

theorem rowMax_nonneg {K : ℕ} (x : Fin (K + 1) → EReal) : 0 ≤ rowMax x := (max_neg_nonneg (x 0)).trans (le_rowMax x 0)

theorem rowMax_bound {K : ℕ} (x : Fin K → EReal) (h : ∀ k, max (x k) (-(x k)) ≤ (Scales.big : EReal) ∨ max (x k) (-(x k)) = ⊤) :
    rowMax x ≤ (Scales.big : EReal) ∨ rowMax x = ⊤ := by
  by_cases ht : ∃ k, max (x k) (-(x k)) = ⊤
  · obtain ⟨k, hk⟩ := ht
    exact Or.inr (top_le_iff.1 (hk ▸ le_rowMax x k))
  · refine Or.inl ((Finset.fold_max_le _).2 ⟨bot_le, fun k _ => (h k).resolve_right fun e => ht ⟨k, e⟩⟩)

theorem max_at {M K : ℕ} (x : FVec Ideal ⟨2, ![M, K]⟩ .f32) (h : (⟨2, ![M, K]⟩ : Shape).Reduces [1] ⟨1, ![M]⟩) (hφ : FKind.Formats .f32)
    (hacc : 0xFF800000#32 = FKind.maximumf.neutral .f32 hφ) (r : Fin M) :
    multiReduction .maximumf [1] ⟨1, ![M]⟩ (absf x) 0xFF800000#32 h hφ hacc (ix1 r) = rowMax fun k : Fin K => x (ix2 r k) := by
  rw [Ideal.multiReduction_maximumf_single (absf x) _ h hφ hacc (ix1 r)]
  unfold rowMax
  have e : (FloatOps.ofBits .f32 0xFF800000#32 : Ideal .f32) = ⊥ := Scales.v_bot
  rw [e]
  refine congrArg (fun f => Finset.univ.fold max ⊥ f) (funext fun k => ?_)
  have ek : h.lift (ix1 r) k = ix2 r (k : Fin K) := by
    funext a
    match a with
    | ⟨0, _⟩ => rfl
    | ⟨1, _⟩ => rfl
  show max (x (h.lift (ix1 r) k)) (-(x (h.lift (ix1 r) k))) = _
  rw [ek]
  rfl

/-! ## Words and bytes -/

/-- Words read as bytes: bit `q` of byte row `p` is bit `8 * (p % 4) + q` of the word in row `p / 4`. -/
theorem bytes_of_words {R r n : ℕ} (x : (⟨2, ![r, n]⟩ : Shape).Idx → BitVec 32) (h : (⟨2, ![r, n]⟩ : Shape).Bitcasts 32 ⟨2, ![R, n]⟩ 8)
    (p : Fin R) (l : Fin n) (q : ℕ) (hq : q < 8) (a : Fin r) (ha : a.val = p.val / 4) :
    (bitcast ⟨2, ![R, n]⟩ 8 x h (ix2 p l)).getLsbD q = (x (ix2 a l)).getLsbD (8 * (p.val % 4) + q) := by
  rw [bitcast_getLsbD x h _ q hq (by decide)]
  have er : (⟨2, ![R, n]⟩ : Shape).row (ix2 p l) = p.val := rfl
  have e1 : ((⟨2, ![R, n]⟩ : Shape).row (ix2 p l) * 8 + q) % 32 = 8 * (p.val % 4) + q := by rw [er]; omega
  have e2 : ((⟨2, ![R, n]⟩ : Shape).row (ix2 p l) * 8 + q) / 32 = p.val / 4 := by rw [er]; omega
  rw [e1]
  congr 2
  funext c
  match c with
  | ⟨0, _⟩ => exact Fin.ext ((h.srcIdx_row _ _ _ ⟨0, Nat.zero_lt_two⟩ rfl).trans (e2.trans ha.symm))
  | ⟨1, _⟩ => exact Fin.ext (h.srcIdx_other _ _ _ ⟨1, Nat.one_lt_two⟩ (by show ¬ 1 + 2 = 2; omega))

theorem mask_bits : ∀ (k : Fin 4) (q : Fin 8), (4042322160#32).getLsbD (8 * k.val + q.val) = decide (4 ≤ q.val) := by decide

theorem word_lt {R r : ℕ} (e : R = 4 * r) (p : Fin R) : p.val / 4 < r := by omega

/-- The low nibbles of bytes packed in words, each moved to the top of its byte. -/
theorem low_bytes {R r n : ℕ} (e : R = 4 * r) (b : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (p : Fin R) (l : Fin n) :
    bitcast ⟨2, ![R, n]⟩ 8 (andi (shli (bitcast ⟨2, ![r, n]⟩ 32 b h) (broadcast ⟨2, ![r, n]⟩ 4#32)) (broadcast ⟨2, ![r, n]⟩ 4042322160#32)) h' (ix2 p l)
      = b (ix2 p l) <<< 4 := by
  apply BitVec.eq_of_getLsbD_eq
  intro q hq
  rw [bytes_of_words _ h' p l q hq ⟨p.val / 4, word_lt e p⟩ rfl]
  show (((bitcast ⟨2, ![r, n]⟩ 32 b h (ix2 ⟨p.val / 4, word_lt e p⟩ l)) <<< (4#32)) &&& 4042322160#32).getLsbD (8 * (p.val % 4) + q) = _
  rw [BitVec.getLsbD_and, mask_bits ⟨p.val % 4, by omega⟩ ⟨q, hq⟩, BitVec.shiftLeft_eq', BitVec.getLsbD_shiftLeft, BitVec.getLsbD_shiftLeft]
  show ((decide (8 * (p.val % 4) + q < 32) && !decide (8 * (p.val % 4) + q < 4) && (bitcast ⟨2, ![r, n]⟩ 32 b h (ix2 ⟨p.val / 4, word_lt e p⟩ l)).getLsbD (8 * (p.val % 4) + q - 4)) && decide (4 ≤ q)) = _
  by_cases h4 : 4 ≤ q
  · rw [bitcast_8_32_getLsbD_ix2 b h ⟨p.val / 4, word_lt e p⟩ l (8 * (p.val % 4) + q - 4) (by omega) p (by show p.val = 4 * (p.val / 4) + _; omega)]
    have e1 : (8 * (p.val % 4) + q - 4) % 8 = q - 4 := by omega
    have e2 : 8 * (p.val % 4) + q < 32 := by omega
    have e3 : ¬ 8 * (p.val % 4) + q < 4 := by omega
    have e4 : ¬ q < 4 := by omega
    simp [e1, e2, e3, e4, h4, hq]
  · have e4 : q < 4 := by omega
    simp [h4, e4]

/-- The high nibbles. -/
theorem high_bytes {R r n : ℕ} (e : R = 4 * r) (b : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (p : Fin R) (l : Fin n) :
    bitcast ⟨2, ![R, n]⟩ 8 (andi (bitcast ⟨2, ![r, n]⟩ 32 b h) (broadcast ⟨2, ![r, n]⟩ 4042322160#32)) h' (ix2 p l)
      = b (ix2 p l) &&& 0xF0#8 := by
  apply BitVec.eq_of_getLsbD_eq
  intro q hq
  rw [bytes_of_words _ h' p l q hq ⟨p.val / 4, word_lt e p⟩ rfl]
  show ((bitcast ⟨2, ![r, n]⟩ 32 b h (ix2 ⟨p.val / 4, word_lt e p⟩ l)) &&& 4042322160#32).getLsbD (8 * (p.val % 4) + q) = _
  rw [BitVec.getLsbD_and, mask_bits ⟨p.val % 4, by omega⟩ ⟨q, hq⟩, BitVec.getLsbD_and,
    bitcast_8_32_getLsbD_ix2 b h ⟨p.val / 4, word_lt e p⟩ l (8 * (p.val % 4) + q) (by omega) p (by show p.val = 4 * (p.val / 4) + _; omega)]
  have e1 : (8 * (p.val % 4) + q) % 8 = q := by omega
  have e2 : (0xF0#8).getLsbD q = decide (4 ≤ q) := by
    have : ∀ q : Fin 8, (0xF0#8).getLsbD q.val = decide (4 ≤ q.val) := by decide
    exact this ⟨q, hq⟩
  rw [e1, e2]

/-- The signed value of a nibble: the low one for `0`, the high one for `1`. -/
def nibI (hh : Fin 2) (b : BitVec 8) : ℤ :=
  if hh = 0 then (((b.setWidth 32) <<< (28#32)).sshiftRight' 28#32).toInt else (((b.setWidth 32) <<< (24#32)).sshiftRight' 28#32).toInt

theorem nib_words : ∀ n : Fin 256, ((BitVec.ofNat 8 n.val) <<< 4).toInt = 16 * nibI 0 (BitVec.ofNat 8 n.val)
    ∧ ((BitVec.ofNat 8 n.val) &&& 0xF0#8).toInt = 16 * nibI 1 (BitVec.ofNat 8 n.val) := by decide +kernel

theorem nib_low (b : BitVec 8) : (b <<< 4).toInt = 16 * nibI 0 b := by
  have := (nib_words ⟨b.toNat, b.isLt⟩).1
  rwa [BitVec.ofNat_toNat, BitVec.setWidth_eq] at this
theorem nib_high (b : BitVec 8) : (b &&& 0xF0#8).toInt = 16 * nibI 1 b := by
  have := (nib_words ⟨b.toNat, b.isLt⟩).2
  rwa [BitVec.ofNat_toNat, BitVec.setWidth_eq] at this

theorem v_sixteenth : Ideal.ofBits .bf16 0x3D80#16 = ((1 / 16 : ℝ) : EReal) := by
  unfold Ideal.ofBits Ideal.ieee
  have e1 : ((0x3D80#16).extractLsb' 7 8).toNat = 123 := rfl
  have e2 : ((0x3D80#16).extractLsb' 0 7).toNat = 0 := rfl
  have e3 : ((0x3D80#16).extractLsb' (8 + 7) 1 == 1#1) = false := rfl
  simp only [e1, e2, e3]
  norm_num

/-- A nibble from the top of its byte, as a weight. -/
theorem weight (b : BitVec 8) (i : ℤ) (h : b.toInt = 16 * i) :
    (((b.toInt : ℝ) : EReal) * Ideal.ofBits .bf16 0x3D80#16) = ((i : ℝ) : EReal) := by
  rw [v_sixteenth, ← EReal.coe_mul, h]
  congr 1
  push_cast
  ring

end Cert.RowOps

end
-- ==== Proof.KernelAt.lean ====
module

public import proofs.«01_k».proof.Proof.ArrayValue
public import proofs.«01_k».proof.Proof.RowOps
public import Idealize.ShloMosaic.Lib.Pipeline.ValueKit
public import proofs.«01_k».proof.Proof.KernelIdealTables
public import proofs.«01_k».proof.Proof.Gen.KernelIdeal.Skeleton
public import Idealize.ShloMosaic.Lib.Pipeline.FrameBody
public import Idealize.ShloMosaic.Lib.Claim
public import Idealize.ShloMosaic.Lib.WritesUnit
public import Idealize.ShloMosaic.Lib.ValueIdx
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ArrRel

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.WordCmp

variable (m : (ℓ : Loc nD τ sig) → Buf (Elt Ideal) ℓ) (ρ : Dev nD → PrngReg)

attribute [local irreducible] V
attribute [local irreducible] Tables.tileN Tables.G Tables.loN Tables.hiN xb wb sb

/-! ## The kernel's value over the extended reals -/

theorem pay6_at (x : Vec Ideal S512x1024 .bf16) (r : Fin 512) :
    k0_pay6 x (ValueIdx.ix2 r (0 : Fin 1)) = RowOps.rowMax (fun k : Fin 1024 => x (ValueIdx.ix2 r k)) * Ideal.ofBits .f32 0x3B124925#32 := by
  refine congrArg (fun z : EReal => z * Ideal.ofBits .f32 0x3B124925#32) ?_
  refine (RowOps.add_col _ _ r).trans ?_
  exact RowOps.max_at (k0_pay5 x) _ _ _ r

section
variable {F : FTy → Type} [FloatOps F]

/-- One step of the search, on a column. -/
def stpV (y : FVec F S512x1 .f32) (k : BitVec 32) (b : IVec S512x1 32) : IVec S512x1 32 :=
  select (cmpf .oge y (bitcastToFloat .f32 (shli (addi b (broadcast S512x1 k)) (broadcast S512x1 23#32)))) (addi b (broadcast S512x1 k)) b

theorem pay7_steps (x : Vec F S512x1024 .bf16) :
    k0_pay7 x = stpV (k0_pay6 x) 32#32 (stpV (k0_pay6 x) 64#32 (stpV (k0_pay6 x) 128#32 (broadcast S512x1 0#32))) := by
  unfold k0_pay7 stpV
  rfl

theorem pay10_steps (x : Vec F S512x1024 .bf16) :
    k0_pay10 (k0_pay6 x) (k0_pay7 x) (k0_pay8 x) (k0_pay9 x)
      = stpV (k0_pay6 x) 1#32 (stpV (k0_pay6 x) 2#32 (stpV (k0_pay6 x) 4#32 (stpV (k0_pay6 x) 8#32 (stpV (k0_pay6 x) 16#32 (k0_pay7 x))))) := by
  unfold k0_pay8 k0_pay9
  generalize k0_pay7 x = b
  generalize k0_pay6 x = y
  unfold k0_pay10 stpV
  rfl

end

theorem stpV_at (y : FVec Ideal S512x1 .f32) (k : BitVec 32) (b : IVec S512x1 32) (p : S512x1.Idx) :
    stpV y k b p = Scales.stp (y p) k (b p) := rfl

theorem pay10_at (x : Vec Ideal S512x1024 .bf16) (p : S512x1.Idx) :
    k0_pay10 (k0_pay6 x) (k0_pay7 x) (k0_pay8 x) (k0_pay9 x) p = Scales.search (k0_pay6 x p) := by
  rw [pay10_steps, pay7_steps]
  unfold Scales.search
  rw [stpV_at, stpV_at, stpV_at, stpV_at, stpV_at, stpV_at, stpV_at, stpV_at]
  rfl

/-- The number a row is scaled by. -/
def yOf (x : Vec Ideal S512x1024 .bf16) (r : Fin 512) : EReal :=
  RowOps.rowMax (fun k : Fin 1024 => x (ValueIdx.ix2 r k)) * Ideal.ofBits .f32 0x3B124925#32

/-- The exponent of each row. -/
theorem ex_at (x : Vec Ideal S512x1024 .bf16) (r : Fin 512) :
    k0_pay1 (k0_pay11 (k0_pay6 x) (k0_pay7 x) (k0_pay8 x) (k0_pay9 x)) (k0_pay12 (k0_pay6 x) (k0_pay7 x) (k0_pay8 x) (k0_pay9 x)) 0#32 (ValueIdx.ix2 r (0 : Fin 1))
      = Scales.ex (Scales.search (yOf x r)) := by
  have e := pay10_at x (ValueIdx.ix2 r (0 : Fin 1))
  rw [pay6_at] at e
  unfold yOf
  rw [← e]
  unfold k0_pay11 k0_pay12
  generalize k0_pay10 (k0_pay6 x) (k0_pay7 x) (k0_pay8 x) (k0_pay9 x) = b
  rfl

theorem scaleOf_at (x : Vec Ideal S512x1024 .bf16) (r : Fin 512) (l : Fin 128) : scaleOf x (ValueIdx.ix2 r l) = Scales.kSc (yOf x r) := by
  unfold scaleOf Scales.kSc
  rw [← ex_at]
  generalize k0_pay11 (k0_pay6 x) (k0_pay7 x) (k0_pay8 x) (k0_pay9 x) = b
  generalize k0_pay12 (k0_pay6 x) (k0_pay7 x) (k0_pay8 x) (k0_pay9 x) = d
  unfold k0_pay3
  generalize k0_pay1 b d 0#32 = e
  rw [shapeCast_self, shapeCast_self]
  exact RowOps.col_bcast _ _ r l

theorem codesOf_at (x : Vec Ideal S512x1024 .bf16) (r : Fin 512) (k : Fin 1024) : codesOf x (ValueIdx.ix2 r k)
    = min (Ideal.ofBits .f32 0x43E00000#32) (max (Ideal.ofBits .f32 0xC3E00000#32) (x (ValueIdx.ix2 r k) * Scales.kInv (yOf x r))) := by
  unfold codesOf Scales.kInv
  rw [← ex_at]
  generalize k0_pay11 (k0_pay6 x) (k0_pay7 x) (k0_pay8 x) (k0_pay9 x) = b
  generalize k0_pay12 (k0_pay6 x) (k0_pay7 x) (k0_pay8 x) (k0_pay9 x) = d
  unfold k0_pay2
  generalize k0_pay1 b d 0#32 = e
  rw [shapeCast_self]
  refine congrArg (fun z : EReal => min (Ideal.ofBits .f32 0x43E00000#32) (max (Ideal.ofBits .f32 0xC3E00000#32) (x (ValueIdx.ix2 r k) * z))) ?_
  exact RowOps.col_bcast _ _ r k

theorem nib_at (hh : Fin 2) (w : Vec Ideal S1x1024x512 .i8) (k : Fin 1024) (l : Fin 512) :
    nib hh w (ValueIdx.ix2 k l) = ((RowOps.nibI hh (w (ValueIdx.ix3 (0 : Fin 1) k l)) : ℝ) : EReal) := by
  have e := RowOps.drop_unit w shapeCasts_S1x1024x512_S1024x512 k l
  rw [← e]
  match hh with
  | ⟨0, _⟩ =>
    have hb := RowOps.low_bytes rfl (shapeCast S1024x512 w shapeCasts_S1x1024x512_S1024x512) bitcasts_S1024x512_w8_S256x512_w32 bitcasts_S256x512_w32_S1024x512_w8 k l
    refine Eq.trans ?_ (RowOps.weight _ _ (RowOps.nib_low (shapeCast S1024x512 w shapeCasts_S1x1024x512_S1024x512 (ValueIdx.ix2 k l))))
    rw [← hb]
    rfl
  | ⟨1, _⟩ =>
    have hb := RowOps.high_bytes rfl (shapeCast S1024x512 w shapeCasts_S1x1024x512_S1024x512) bitcasts_S1024x512_w8_S256x512_w32 bitcasts_S256x512_w32_S1024x512_w8 k l
    refine Eq.trans ?_ (RowOps.weight _ _ (RowOps.nib_high (shapeCast S1024x512 w shapeCasts_S1x1024x512_S1024x512 (ValueIdx.ix2 k l))))
    rw [← hb]
    rfl

theorem prodOf_at (xs : Vec Ideal S512x1 .f32) (W : FVec Ideal S1024x512 .bf16) (codes : Vec Ideal S512x1024 .bf16) (sc : Vec Ideal S1x1x512 .f32)
    (r : Fin 512) (l : Fin 512) :
    prodOf xs W codes sc (ValueIdx.ix2 r l)
      = ((∑ k : Fin 1024, codes (ValueIdx.ix2 r k) * W (ValueIdx.ix2 k l)) * xs (ValueIdx.ix2 r (0 : Fin 1))) * sc (ValueIdx.ix3 (0 : Fin 1) (0 : Fin 1) l) := by
  have e1 := RowOps.col_bcast xs broadcasts_S512x1_S512x512 r l
  have e2 := (RowOps.row_bcast (shapeCast S1x512 sc shapeCasts_S1x1x512_S1x512) broadcasts_S1x512_S512x512 r l).trans
    (RowOps.drop_unit sc shapeCasts_S1x1x512_S1x512 (0 : Fin 1) l)
  have e3 := Ideal.matmul_plain_apply (φ₁ := .bf16) (φ₂ := .bf16) none codes W (constant S512x512 .f32 0x00000000#32) r l
  have e4 : (constant S512x512 .f32 0x00000000#32 : FVec Ideal S512x512 .f32) (ValueIdx.ix2 r l) = 0 := Ideal.ofBits_zero_f32
  rw [e4, zero_add] at e3
  rw [← e1, ← e2, ← e3]
  rfl

/-- THE KERNEL'S TILE, at an index. -/
theorem tileVal_at (c : Dev nD) (n : Fin 32) (g : Fin 16) (hh : Fin 2) (k : Fin 5) (r l : Fin 512) :
    tileVal m c n g hh k (ValueIdx.ix2 r l)
      = Scales.dot (fun j : Fin 1024 => xb m c n (ValueIdx.ix2 r j))
          (fun j : Fin 1024 => ((RowOps.nibI hh (wsl k (wb m c g) (ValueIdx.ix3 (0 : Fin 1) j l)) : ℝ) : EReal))
          (Scales.kInv (yOf (xb m c n) r)) (Scales.kSc (yOf (xb m c n) r)) * ssl hh k (sb m c g) (ValueIdx.ix3 (0 : Fin 1) (0 : Fin 1) l) := by
  unfold tileVal Scales.dot
  rw [prodOf_at]
  have e1 : lane0 (scaleOf (xb m c n)) (ValueIdx.ix2 r (0 : Fin 1)) = Scales.kSc (yOf (xb m c n) r) := by
    refine Eq.trans ?_ (scaleOf_at (xb m c n) r 0)
    unfold lane0
    refine congrArg (scaleOf (xb m c n)) (funext fun a => ?_)
    match a with
    | ⟨0, _⟩ => exact Fin.ext (show 0 + 1 * r.val = r.val by omega)
    | ⟨1, _⟩ => rfl
  rw [e1]
  refine congrArg (fun z : EReal => z * Scales.kSc (yOf (xb m c n) r) * ssl hh k (sb m c g) (ValueIdx.ix3 (0 : Fin 1) (0 : Fin 1) l)) ?_
  refine Finset.sum_congr rfl fun j _ => ?_
  rw [codesOf_at, nib_at]

end Cert.KernelIdeal.Run
-- ==== Proof.Spec.lean ====
/-
  The value both programs compute, at a row and a column: the dot product of the row's codes with the nibbles of the
  row's group, by the two scales. The kernel's scales and the reference's give the same value.
-/
module

public import proofs.«01_k».proof.Proof.RowOps

@[expose] public section

noncomputable section

namespace Cert.Spec

open Idealize.ShloMosaic Idealize.ShloMosaic.ValueIdx
open scoped BigOperators

/-- The value of row `r` and column `j`, for a row of group `g`. -/
def value (X : (⟨2, ![16384, 1024]⟩ : Shape).Idx → EReal) (W : (⟨3, ![16, 1024, 2560]⟩ : Shape).Idx → BitVec 8) (S : (⟨2, ![16, 5120]⟩ : Shape).Idx → EReal)
    (inv sc : EReal → EReal) (r : Fin 16384) (j : Fin 5120) (g : Fin 16) : EReal :=
  Scales.dot (fun k : Fin 1024 => X (ix2 r k))
    (fun k : Fin 1024 => ((RowOps.nibI ⟨j.val / 2560, by have := j.isLt; omega⟩ (W (ix3 g k (⟨j.val % 2560, Nat.mod_lt _ (by decide)⟩ : Fin 2560))) : ℝ) : EReal))
    (inv (RowOps.rowMax fun k : Fin 1024 => X (ix2 r k))) (sc (RowOps.rowMax fun k : Fin 1024 => X (ix2 r k))) * S (ix2 g j)

/-- The kernel's inverse scale and scale of a row whose greatest magnitude is `a`. -/
def kI (a : EReal) : EReal := Scales.kInv (a * Ideal.ofBits .f32 0x3B124925#32)
def kS (a : EReal) : EReal := Scales.kSc (a * Ideal.ofBits .f32 0x3B124925#32)

theorem value_eq (X : (⟨2, ![16384, 1024]⟩ : Shape).Idx → EReal) (W : (⟨3, ![16, 1024, 2560]⟩ : Shape).Idx → BitVec 8) (S : (⟨2, ![16, 5120]⟩ : Shape).Idx → EReal)
    (hX : ∀ i, max (X i) (-(X i)) ≤ (Scales.big : EReal) ∨ max (X i) (-(X i)) = ⊤) (r : Fin 16384) (j : Fin 5120) (g : Fin 16) :
    value X W S kI kS r j g = value X W S Scales.rInv Scales.rSc r j g := by
  unfold value kI kS
  refine congrArg (fun z : EReal => z * S (ix2 g j)) ?_
  exact Scales.dot_eq _ _ (fun k : Fin 1024 => (RowOps.nibI ⟨j.val / 2560, by have := j.isLt; omega⟩ (W (ix3 g k (⟨j.val % 2560, Nat.mod_lt _ (by decide)⟩ : Fin 2560))) : ℝ)) _ (fun _ => rfl)
    (fun k => RowOps.le_rowMax (fun k : Fin 1024 => X (ix2 r k)) k) (RowOps.rowMax_nonneg (K := 1023) fun k => X (ix2 r k)) (RowOps.rowMax_bound (fun k : Fin 1024 => X (ix2 r k)) fun k => hX _)

end Cert.Spec
-- ==== Proof.KernelSpec.lean ====
/-
  The kernel's output array at an index, of the argument arrays.
-/
module

public import proofs.«01_k».proof.Proof.KernelAt
public import proofs.«01_k».proof.Proof.Spec
public import proofs.«01_k».proof.Proof.RowOps
public import Idealize.ShloMosaic.Lib.Pipeline.ValueKit
public import proofs.«01_k».proof.Proof.KernelIdealTables
public import proofs.«01_k».proof.Proof.Gen.KernelIdeal.Skeleton
public import Idealize.ShloMosaic.Lib.Pipeline.FrameBody
public import Idealize.ShloMosaic.Lib.Claim
public import Idealize.ShloMosaic.Lib.WritesUnit
public import Idealize.ShloMosaic.Lib.ValueIdx
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ArrRel

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.WordCmp

variable (m : (ℓ : Loc nD τ sig) → Buf (Elt Ideal) ℓ) (ρ : Dev nD → PrngReg)

attribute [local irreducible] V
attribute [local irreducible] Tables.tileN Tables.G Tables.loN Tables.hiN xb wb sb

section

theorem xb_at (c : Dev nD) (r : Fin 16384) (k : Fin 1024) (h : r.val / 512 < 32) (h' : r.val % 512 < 512) :
    xb m c ⟨r.val / 512, h⟩ (ValueIdx.ix2 (⟨r.val % 512, h'⟩ : Fin 512) k) = m ((c : Thread nD τ).loc main_arg0) (ValueIdx.ix2 r k) := by
  unfold xb
  rw [V_main_arg0]
  refine congrArg (m ((c : Thread nD τ).loc main_arg0)) (funext fun a => ?_)
  match a with
  | ⟨0, _⟩ => exact Fin.ext (show 512 * (r.val / 512) + r.val % 512 = r.val by omega)
  | ⟨1, _⟩ => rfl

theorem wsl_at (c : Dev nD) (g : Fin 16) (k : Fin 5) (i : Fin 1024) (l : Fin 512) (h : 512 * k.val + l.val < 2560) :
    wsl k (wb m c g) (ValueIdx.ix3 (0 : Fin 1) i l) = m ((c : Thread nD τ).loc main_arg2) (ValueIdx.ix3 g i (⟨512 * k.val + l.val, h⟩ : Fin 2560)) := by
  unfold wsl wb
  rw [V_main_arg2]
  refine congrArg (m ((c : Thread nD τ).loc main_arg2)) (funext fun a => ?_)
  match a with
  | ⟨0, _⟩ => rfl
  | ⟨1, _⟩ => exact Fin.ext (show 0 + 1 * i.val = i.val by omega)
  | ⟨2, _⟩ => exact Fin.ext (show 512 * k.val + 1 * l.val = 512 * k.val + l.val by omega)

theorem ssl_at (c : Dev nD) (g : Fin 16) (hh : Fin 2) (k : Fin 5) (l : Fin 512) (h : 2560 * hh.val + 512 * k.val + l.val < 5120) :
    ssl hh k (sb m c g) (ValueIdx.ix3 (0 : Fin 1) (0 : Fin 1) l) = m ((c : Thread nD τ).loc main_arg3) (ValueIdx.ix2 g (⟨2560 * hh.val + 512 * k.val + l.val, h⟩ : Fin 5120)) := by
  unfold ssl sb
  rw [V_scale]
  refine broadcastInDim_apply _ _ _ _ _ fun a => ?_
  match a with
  | ⟨0, _⟩ => rfl
  | ⟨1, _⟩ => exact (show 2560 * hh.val + 512 * k.val + l.val = 2560 * hh.val + 512 * k.val + 1 * l.val by omega)

/-- THE KERNEL'S OUTPUT, at an index. -/
theorem outG_spec (c : Dev nD) (γ : ℕ → Fin 16) (r : Fin 16384) (j : Fin 5120) :
    outG m c γ (ValueIdx.ix2 r j)
      = Spec.value (m ((c : Thread nD τ).loc main_arg0)) (m ((c : Thread nD τ).loc main_arg2)) (m ((c : Thread nD τ).loc main_arg3)) Spec.kI Spec.kS r j (γ r.val) := by
  have hr := r.isLt
  have hj := j.isLt
  have h1 : r.val / 512 < 32 := by omega
  have h2 : r.val % 512 < 512 := by omega
  have h3 : j.val / 2560 < 2 := by omega
  have h4 : j.val % 2560 / 512 < 5 := by omega
  have h5 : j.val % 512 < 512 := by omega
  refine (show outG m c γ (ValueIdx.ix2 r j) = tileVal m c ⟨r.val / 512, h1⟩ (γ r.val) ⟨j.val / 2560, h3⟩ ⟨j.val % 2560 / 512, h4⟩
    (ValueIdx.ix2 (⟨r.val % 512, h2⟩ : Fin 512) (⟨j.val % 512, h5⟩ : Fin 512)) from rfl).trans ?_
  rw [tileVal_at, ssl_at m c _ _ _ _ (show 2560 * (j.val / 2560) + 512 * (j.val % 2560 / 512) + j.val % 512 < 5120 by omega)]
  have ex : ∀ k : Fin 1024, xb m c ⟨r.val / 512, h1⟩ (ValueIdx.ix2 (⟨r.val % 512, h2⟩ : Fin 512) k) = m ((c : Thread nD τ).loc main_arg0) (ValueIdx.ix2 r k) :=
    fun k => xb_at m c r k h1 h2
  have ew : ∀ k : Fin 1024, wsl ⟨j.val % 2560 / 512, h4⟩ (wb m c (γ r.val)) (ValueIdx.ix3 (0 : Fin 1) k (⟨j.val % 512, h5⟩ : Fin 512))
      = m ((c : Thread nD τ).loc main_arg2) (ValueIdx.ix3 (γ r.val) k (⟨j.val % 2560, Nat.mod_lt _ (by decide)⟩ : Fin 2560)) := fun k =>
    (wsl_at m c _ _ k _ (show 512 * (j.val % 2560 / 512) + j.val % 512 < 2560 by omega)).trans
      (congrArg (fun z : Fin 2560 => m ((c : Thread nD τ).loc main_arg2) (ValueIdx.ix3 (γ r.val) k z)) (Fin.ext (show 512 * (j.val % 2560 / 512) + j.val % 512 = j.val % 2560 by omega)))
  have es : (⟨2560 * (j.val / 2560) + 512 * (j.val % 2560 / 512) + j.val % 512, by omega⟩ : Fin 5120) = j := Fin.ext (by show 2560 * (j.val / 2560) + 512 * (j.val % 2560 / 512) + j.val % 512 = j.val; omega)
  unfold yOf
  simp only [ex, ew]
  rw [es]
  rfl

end

end Cert.KernelIdeal.Run
-- ==== Proof.KernelRun.lean ====
/-
  The kernel's run over the extended reals: its output named, its arguments unchanged.
-/
module

public import proofs.«01_k».proof.Proof.KernelSpec
public import proofs.«01_k».proof.Proof.Spec
public import proofs.«01_k».proof.Proof.RowOps
public import Idealize.ShloMosaic.Lib.Pipeline.ValueKit
public import proofs.«01_k».proof.Proof.KernelIdealTables
public import proofs.«01_k».proof.Proof.Gen.KernelIdeal.Skeleton
public import Idealize.ShloMosaic.Lib.Pipeline.FrameBody
public import Idealize.ShloMosaic.Lib.Claim
public import Idealize.ShloMosaic.Lib.WritesUnit
public import Idealize.ShloMosaic.Lib.ValueIdx
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ArrRel

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.WordCmp

variable (m : (ℓ : Loc nD τ sig) → Buf (Elt Ideal) ℓ) (ρ : Dev nD → PrngReg)

attribute [local irreducible] V
attribute [local irreducible] Tables.tileN Tables.G Tables.loN Tables.hiN xb wb sb

section
variable {f : ℕ → ℕ} (h : Tables.Holds (sizes m 0) f)
include h

/-- THE KERNEL'S RUN, where the groups cover every row. -/
theorem run_value_args (hf : Tables.P f 16 = 16384) (γ : ℕ → Fin 16)
    (hγ : ∀ r, r < 16384 → Tables.P f (γ r).val ≤ r ∧ r < Tables.P f ((γ r).val + 1)) :
    θ_run defs (onTc (τ := τ) (main (F := Ideal))) ⟨m, fun _ => 0, ρ⟩ (fun r => ∀ c : Dev nD,
      r.2.mem ((c.tc : Thread nD τ).loc main_v75) = outG m c γ
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hs : Tables.P f 16 ≤ 16384 := hf.le
  exact (θ_run defs _ _).mono (fun r hr c => by
    refine ⟨?_, (Pipeline.RDat.FramePost.arr_in hr.1 c 0 rfl).trans (V_main_arg0 m c),
      ((hr.1 c).2 main_arg1 (by decide : main_arg1 ∈ Pipeline.restRefs sig spec0)).trans (V_main_arg1 m c),
      (Pipeline.RDat.FramePost.arr_in hr.1 c 1 rfl).trans (V_main_arg2 m c),
      ((hr.1 c).2 main_arg3 (by decide : main_arg3 ∈ Pipeline.restRefs sig spec0)).trans (V_main_arg3 m c)⟩
    obtain ⟨after, hL, hA⟩ := Pipeline.RDat.FramePost.exists_exact hr.1 c
    exact (hA 3).trans (array_eq m c _ _ (adm m (ok_of_fits h hs)) (plan m h c (adm m (ok_of_fits h hs)) rfl hs hf γ hγ) after (fun u hu => hL 3 u hu)))
    (run_items m ρ (tl m h hs) (gr m h hs) (ok_of_fits h hs) (sched m h (adm m (ok_of_fits h hs)) rfl hs))

end

end Cert.KernelIdeal.Run
-- ==== Proof.RefTurns.lean ====
/-
  The reference's body at an index: the product of the row's codes with the weights of the one group the row is a
  member of, by the row's scale and by the weight scale.
-/
module

public import proofs.«01_k».proof.Proof.Gen.ReferenceIdeal.Value
public import proofs.«01_k».proof.Proof.RowOps

@[expose] public section

set_option maxRecDepth 16384

noncomputable section

namespace Cert.ReferenceIdeal.Run

open Cert.ReferenceIdeal Cert.ReferenceIdeal.Gen Idealize.ShloMosaic Idealize.ShloMosaic.TcCoe Idealize.SL.Sem

section
variable {F : FTy → Type} [FloatOps F]

/-- One group's turn: its product on the rows that are its members, what was there before on the others. -/
def pick (codes : FVec F S16384x1024 .bf16) (w : Vec F S1x1024x5120 .bf16) (oh : Vec F S16384x1 .f32) (acc : FVec F S16384x5120 .f32) :
    FVec F S16384x5120 .f32 :=
  select (broadcastTo S16384x5120 (shapeCast S16384x1 (cmpf .ogt (shapeCast S16384x1 oh shapeCasts_S16384x1_S16384x1)
      (broadcast S16384x1 (Scalar.ofBits .f32 0x00000000#32 : F .f32))) shapeCasts_S16384x1_S16384x1) broadcasts_S16384x1_S16384x5120)
    (matmul dot_S16384x1024_S1024x5120_S16384x5120_1_0_0_1_n_n none codes (shapeCast S1024x5120 w shapeCasts_S1x1024x5120_S1024x5120)
      (constant S16384x5120 .f32 0x00000000#32)) acc

/-- The scales, after the groups. -/
def fin (xs : FVec F S16384x1 .f32) (acc : FVec F S16384x5120 .f32) (s : Vec F S16384x5120 .f32) : FVec F S16384x5120 .bf16 :=
  truncf .bf16 (mulf (mulf acc (broadcastTo S16384x5120 xs broadcasts_S16384x1_S16384x5120)) (shapeCast S16384x5120 s shapeCasts_S16384x5120_S16384x5120)) bitsLt_bf16_f32

/-- The groups in turn. -/
def all (codes : FVec F S16384x1024 .bf16) (x1 : Vec F S16384x16 .f32) (x2 : Vec F S16x1024x5120 .bf16) : FVec F S16384x5120 .f32 :=
  pick codes (View.ld x2 r0_31) (View.ld x1 r0_32) <| pick codes (View.ld x2 r0_29) (View.ld x1 r0_30) <|
  pick codes (View.ld x2 r0_27) (View.ld x1 r0_28) <| pick codes (View.ld x2 r0_25) (View.ld x1 r0_26) <|
  pick codes (View.ld x2 r0_23) (View.ld x1 r0_24) <| pick codes (View.ld x2 r0_21) (View.ld x1 r0_22) <|
  pick codes (View.ld x2 r0_19) (View.ld x1 r0_20) <| pick codes (View.ld x2 r0_17) (View.ld x1 r0_18) <|
  pick codes (View.ld x2 r0_15) (View.ld x1 r0_16) <| pick codes (View.ld x2 r0_13) (View.ld x1 r0_14) <|
  pick codes (View.ld x2 r0_11) (View.ld x1 r0_12) <| pick codes (View.ld x2 r0_9) (View.ld x1 r0_10) <|
  pick codes (View.ld x2 r0_7) (View.ld x1 r0_8) <| pick codes (View.ld x2 r0_5) (View.ld x1 r0_6) <|
  pick codes (View.ld x2 r0_3) (View.ld x1 r0_4) <| pick codes (View.ld x2 r0_1) (View.ld x1 r0_2) <| k0_pay6

end

/-! ## At an index -/

/-- Sixteen turns, on numbers. -/
def nest (b : Fin 16 → BitVec 1) (d : Fin 16 → EReal) (z : EReal) : List (Fin 16) → EReal
  | [] => z
  | g :: gs => if b g = 1#1 then d g else nest b d z gs

theorem nest_eq (b : Fin 16 → BitVec 1) (d : Fin 16 → EReal) (z : EReal) (γ : Fin 16) (h : ∀ g, b g = 1#1 ↔ g = γ) :
    ∀ L : List (Fin 16), γ ∈ L → nest b d z L = d γ
  | [], hm => absurd hm List.not_mem_nil
  | g :: gs, hm => by
    unfold nest
    by_cases hg : g = γ
    · rw [if_pos ((h g).2 hg), hg]
    · rw [if_neg (fun e => hg ((h g).1 e))]
      exact nest_eq b d z γ h gs ((List.mem_cons.1 hm).resolve_left (fun e => hg e.symm))

/-- The product of a row with a group's column. -/
def prod (codes : FVec Ideal S16384x1024 .bf16) (x2 : Vec Ideal S16x1024x5120 .bf16) (r : Fin 16384) (j : Fin 5120) (g : Fin 16) : EReal :=
  ∑ k : Fin 1024, codes (ValueIdx.ix2 r k) * x2 (ValueIdx.ix3 g k j)

/-- Is the row a member of the group? -/
def memb (x1 : Vec Ideal S16384x16 .f32) (r : Fin 16384) (g : Fin 16) : BitVec 1 :=
  Ideal.cmp .ogt (x1 (ValueIdx.ix2 r g)) (Ideal.ofBits .f32 0x00000000#32)

theorem pick_at (codes : FVec Ideal S16384x1024 .bf16) (w : Vec Ideal S1x1024x5120 .bf16) (oh : Vec Ideal S16384x1 .f32)
    (acc : FVec Ideal S16384x5120 .f32) (r : Fin 16384) (j : Fin 5120) :
    pick codes w oh acc (ValueIdx.ix2 r j)
      = if Ideal.cmp .ogt (oh (ValueIdx.ix2 r (0 : Fin 1))) (Ideal.ofBits .f32 0x00000000#32) = 1#1
        then ∑ k : Fin 1024, codes (ValueIdx.ix2 r k) * w (ValueIdx.ix3 (0 : Fin 1) k j) else acc (ValueIdx.ix2 r j) := by
  unfold pick
  rw [shapeCast_self, shapeCast_self]
  have e1 := RowOps.col_bcast (cmpf .ogt oh (broadcast S16384x1 (Scalar.ofBits .f32 0x00000000#32 : Ideal .f32))) broadcasts_S16384x1_S16384x5120 r j
  have e2 : ∀ k : Fin 1024, shapeCast S1024x5120 w shapeCasts_S1x1024x5120_S1024x5120 (ValueIdx.ix2 k j) = w (ValueIdx.ix3 (0 : Fin 1) k j) :=
    fun k => RowOps.drop_unit w shapeCasts_S1x1024x5120_S1024x5120 k j
  have e3 := Ideal.matmul_plain_apply (φ₁ := .bf16) (φ₂ := .bf16) none codes (shapeCast S1024x5120 w shapeCasts_S1x1024x5120_S1024x5120) (constant S16384x5120 .f32 0x00000000#32) r j
  have e4 : (constant S16384x5120 .f32 0x00000000#32 : FVec Ideal S16384x5120 .f32) (ValueIdx.ix2 r j) = 0 := Ideal.ofBits_zero_f32
  rw [e4, zero_add] at e3
  simp only [e2] at e3
  rw [← e3]
  refine Eq.trans ?_ (congrArg (fun b : BitVec 1 => if b = 1#1 then _ else acc (ValueIdx.ix2 r j)) e1)
  rfl

theorem ld_w (x2 : Vec Ideal S16x1024x5120 .bf16) (g : Fin 16) (off : Fin 3 → ℕ) (ho : off = ![g.val, 0, 0])
    (h : ∀ a, off a + S1x1024x5120.size a ≤ S16x1024x5120.size a) (k : Fin 1024) (j : Fin 5120) :
    View.ld x2 (Rect.unit (s := S16x1024x5120) off S1x1024x5120.size h) (ValueIdx.ix3 (0 : Fin 1) k j) = x2 (ValueIdx.ix3 g k j) := by
  subst ho
  refine congrArg x2 (funext fun a => ?_)
  match a with
  | ⟨0, _⟩ => exact Fin.ext (show g.val + 1 * 0 = g.val by omega)
  | ⟨1, _⟩ => exact Fin.ext (show 0 + 1 * k.val = k.val by omega)
  | ⟨2, _⟩ => exact Fin.ext (show 0 + 1 * j.val = j.val by omega)

theorem ld_oh (x1 : Vec Ideal S16384x16 .f32) (g : Fin 16) (off : Fin 2 → ℕ) (ho : off = ![0, g.val])
    (h : ∀ a, off a + S16384x1.size a ≤ S16384x16.size a) (r : Fin 16384) :
    View.ld x1 (Rect.unit (s := S16384x16) off S16384x1.size h) (ValueIdx.ix2 r (0 : Fin 1)) = x1 (ValueIdx.ix2 r g) := by
  subst ho
  refine congrArg x1 (funext fun a => ?_)
  match a with
  | ⟨0, _⟩ => exact Fin.ext (show 0 + 1 * r.val = r.val by omega)
  | ⟨1, _⟩ => exact Fin.ext (show g.val + 1 * 0 = g.val by omega)

/-- A group's turn, at an index. -/
theorem turn (codes : FVec Ideal S16384x1024 .bf16) (x1 : Vec Ideal S16384x16 .f32) (x2 : Vec Ideal S16x1024x5120 .bf16)
    (g : Fin 16) (off : Fin 3 → ℕ) (ho : off = ![g.val, 0, 0]) (h : ∀ a, off a + S1x1024x5120.size a ≤ S16x1024x5120.size a)
    (off' : Fin 2 → ℕ) (ho' : off' = ![0, g.val]) (h' : ∀ a, off' a + S16384x1.size a ≤ S16384x16.size a)
    (acc : FVec Ideal S16384x5120 .f32) (r : Fin 16384) (j : Fin 5120) (L : List (Fin 16)) (z : EReal)
    (ha : acc (ValueIdx.ix2 r j) = nest (memb x1 r) (prod codes x2 r j) z L) :
    pick codes (View.ld x2 (Rect.unit (s := S16x1024x5120) off S1x1024x5120.size h)) (View.ld x1 (Rect.unit (s := S16384x16) off' S16384x1.size h')) acc (ValueIdx.ix2 r j)
      = nest (memb x1 r) (prod codes x2 r j) z (g :: L) := by
  rw [pick_at, ld_oh x1 g off' ho', ha]
  simp only [ld_w x2 g off ho]
  rfl

theorem all_at (codes : FVec Ideal S16384x1024 .bf16) (x1 : Vec Ideal S16384x16 .f32) (x2 : Vec Ideal S16x1024x5120 .bf16)
    (r : Fin 16384) (j : Fin 5120) (γ : Fin 16) (h : ∀ g, memb x1 r g = 1#1 ↔ g = γ) :
    all codes x1 x2 (ValueIdx.ix2 r j) = prod codes x2 r j γ := by
  refine Eq.trans ?_ (nest_eq (memb x1 r) (prod codes x2 r j) ((k0_pay6 : FVec Ideal S16384x5120 .f32) (ValueIdx.ix2 r j)) γ h
    [15, 14, 13, 12, 11, 10, 9, 8, 7, 6, 5, 4, 3, 2, 1, 0] (by clear h; revert γ; decide))
  unfold all
  refine turn codes x1 x2 15 _ rfl _ _ rfl _ _ r j _ _ ?_
  refine turn codes x1 x2 14 _ rfl _ _ rfl _ _ r j _ _ ?_
  refine turn codes x1 x2 13 _ rfl _ _ rfl _ _ r j _ _ ?_
  refine turn codes x1 x2 12 _ rfl _ _ rfl _ _ r j _ _ ?_
  refine turn codes x1 x2 11 _ rfl _ _ rfl _ _ r j _ _ ?_
  refine turn codes x1 x2 10 _ rfl _ _ rfl _ _ r j _ _ ?_
  refine turn codes x1 x2 9 _ rfl _ _ rfl _ _ r j _ _ ?_
  refine turn codes x1 x2 8 _ rfl _ _ rfl _ _ r j _ _ ?_
  refine turn codes x1 x2 7 _ rfl _ _ rfl _ _ r j _ _ ?_
  refine turn codes x1 x2 6 _ rfl _ _ rfl _ _ r j _ _ ?_
  refine turn codes x1 x2 5 _ rfl _ _ rfl _ _ r j _ _ ?_
  refine turn codes x1 x2 4 _ rfl _ _ rfl _ _ r j _ _ ?_
  refine turn codes x1 x2 3 _ rfl _ _ rfl _ _ r j _ _ ?_
  refine turn codes x1 x2 2 _ rfl _ _ rfl _ _ r j _ _ ?_
  refine turn codes x1 x2 1 _ rfl _ _ rfl _ _ r j _ _ ?_
  refine turn codes x1 x2 0 _ rfl _ _ rfl _ _ r j _ _ ?_
  rfl

theorem fin_at (xs : FVec Ideal S16384x1 .f32) (acc : FVec Ideal S16384x5120 .f32) (s : Vec Ideal S16384x5120 .f32) (r : Fin 16384) (j : Fin 5120) :
    fin xs acc s (ValueIdx.ix2 r j) = acc (ValueIdx.ix2 r j) * xs (ValueIdx.ix2 r (0 : Fin 1)) * s (ValueIdx.ix2 r j) := by
  unfold fin
  rw [shapeCast_self]
  have e1 := RowOps.col_bcast xs broadcasts_S16384x1_S16384x5120 r j
  rw [← e1]
  rfl

end Cert.ReferenceIdeal.Run
-- ==== Proof.RefOut.lean ====
/-
  The reference's body at an index: the product of the row's codes with the weights of the one group the row is a
  member of, by the row's scale and by the weight scale.
-/
module

public import proofs.«01_k».proof.Proof.Gen.ReferenceIdeal.Value
public import proofs.«01_k».proof.Proof.RowOps
public import proofs.«01_k».proof.Proof.RefTurns

@[expose] public section

set_option maxRecDepth 16384

noncomputable section

namespace Cert.ReferenceIdeal.Run

open Cert.ReferenceIdeal Cert.ReferenceIdeal.Gen Idealize.ShloMosaic Idealize.ShloMosaic.TcCoe Idealize.SL.Sem

section
variable {F : FTy → Type} [FloatOps F]

/-- A group's turn, its product and its rows given. -/
def put (b : IVec S16384x1 1) (p acc : FVec F S16384x5120 .f32) : FVec F S16384x5120 .f32 :=
  select (broadcastTo S16384x5120 (shapeCast S16384x1 b shapeCasts_S16384x1_S16384x1) broadcasts_S16384x1_S16384x5120) p acc

theorem first_turn (codes : FVec F S16384x1024 .bf16) (a p : FVec F S16384x5120 .f32) (o z : FVec F S16384x1 .f32) (w1 : Vec F S1x1024x5120 .bf16) (o1 : Vec F S16384x1 .f32)
    (w2 : Vec F S1x1024x5120 .bf16) (o2 : Vec F S16384x1 .f32) (w3 : Vec F S1x1024x5120 .bf16) (o3 : Vec F S16384x1 .f32) :
    k0_pay10 codes a p o z w1 o1 w2 o2 w3 o3 = pick codes w3 o3 (pick codes w2 o2 (pick codes w1 o1 (put (cmpf .ogt o z) p a))) := by
  unfold k0_pay10 pick put
  rfl

theorem turn12 (codes : FVec F S16384x1024 .bf16) (a : FVec F S16384x5120 .f32) (w0 : FVec F S1024x5120 .bf16) (o0 : Vec F S16384x1 .f32)
    (w1 : Vec F S1x1024x5120 .bf16) (o1 : Vec F S16384x1 .f32) (w2 : Vec F S1x1024x5120 .bf16) (o2 : Vec F S16384x1 .f32) :
    k0_pay12 codes a w0 o0 w1 o1 w2 o2 = pick codes w2 o2 (pick codes w1 o1 (put (cmpf .ogt (shapeCast S16384x1 o0 shapeCasts_S16384x1_S16384x1)
      (broadcast S16384x1 (Scalar.ofBits .f32 0x00000000#32 : F .f32)))
      (matmul dot_S16384x1024_S1024x5120_S16384x5120_1_0_0_1_n_n none codes w0 (constant S16384x5120 .f32 0x00000000#32)) a)) := by
  unfold k0_pay12 pick put
  rfl

theorem turn15 (codes : FVec F S16384x1024 .bf16) (a p : FVec F S16384x5120 .f32) (b : IVec S16384x1 1) (w1 : Vec F S1x1024x5120 .bf16) (o1 : Vec F S16384x1 .f32)
    (w2 : Vec F S1x1024x5120 .bf16) (o2 : Vec F S16384x1 .f32) (w3 : Vec F S1x1024x5120 .bf16) (o3 : Vec F S16384x1 .f32) :
    k0_pay15 codes a p b w1 o1 w2 o2 w3 o3 = pick codes w3 o3 (pick codes w2 o2 (pick codes w1 o1 (put b p a))) := by
  unfold k0_pay15 pick put
  rfl

theorem turn17 (codes : FVec F S16384x1024 .bf16) (a : FVec F S16384x5120 .f32) (w0 : FVec F S1024x5120 .bf16) (z : FVec F S16384x5120 .f32) (o0 : Vec F S16384x1 .f32)
    (w1 : Vec F S1x1024x5120 .bf16) (o1 : Vec F S16384x1 .f32) (w2 : Vec F S1x1024x5120 .bf16) (o2 : Vec F S16384x1 .f32) :
    k0_pay17 codes a w0 z o0 w1 o1 w2 o2 = pick codes w2 o2 (pick codes w1 o1 (put (cmpf .ogt (shapeCast S16384x1 o0 shapeCasts_S16384x1_S16384x1)
      (broadcast S16384x1 (Scalar.ofBits .f32 0x00000000#32 : F .f32)))
      (matmul dot_S16384x1024_S1024x5120_S16384x5120_1_0_0_1_n_n none codes w0 z) a)) := by
  unfold k0_pay17 pick put
  rfl

/-- The last turn's rows come without the shape cast. -/
def put' (b : IVec S16384x1 1) (p acc : FVec F S16384x5120 .f32) : FVec F S16384x5120 .f32 :=
  select (broadcastTo S16384x5120 b broadcasts_S16384x1_S16384x5120) p acc

theorem turn1 (xs : FVec F S16384x1 .f32) (codes : FVec F S16384x1024 .bf16) (a p : FVec F S16384x5120 .f32) (b : IVec S16384x1 1) (w1 : Vec F S1x1024x5120 .bf16)
    (o1 : Vec F S16384x1 .f32) (s : Vec F S16384x5120 .f32) :
    k0_pay1 xs codes a p b w1 o1 s = fin xs (pick codes w1 o1 (put' b p a)) s := by
  unfold k0_pay1 pick put' fin
  rfl

theorem put_pick (codes : FVec F S16384x1024 .bf16) (w : Vec F S1x1024x5120 .bf16) (o : Vec F S16384x1 .f32) (a : FVec F S16384x5120 .f32) :
    put (cmpf .ogt (shapeCast S16384x1 o shapeCasts_S16384x1_S16384x1) (broadcast S16384x1 (Scalar.ofBits .f32 0x00000000#32 : F .f32)))
      (matmul dot_S16384x1024_S1024x5120_S16384x5120_1_0_0_1_n_n none codes (shapeCast S1024x5120 w shapeCasts_S1x1024x5120_S1024x5120)
      (constant S16384x5120 .f32 0x00000000#32)) a = pick codes w o a := by
  unfold put pick
  rfl

theorem put_pick0 (x : Vec F S16384x1024 .bf16) (w : Vec F S1x1024x5120 .bf16) (o : Vec F S16384x1 .f32) (a : FVec F S16384x5120 .f32) :
    put (cmpf .ogt (k0_pay8 o) (k0_pay9 (F := F))) (k0_pay7 x w) a = pick (k0_pay5 x) w o a := by
  unfold k0_pay8 k0_pay9 k0_pay7 put pick
  rfl

theorem put_pick13 (codes : FVec F S16384x1024 .bf16) (w : Vec F S1x1024x5120 .bf16) (o : Vec F S16384x1 .f32) (a : FVec F S16384x5120 .f32) :
    put (k0_pay14 o) (k0_pay13 codes w) a = pick codes w o a := by
  unfold k0_pay14 k0_pay13 put pick
  rfl

theorem put_pick18 (codes : FVec F S16384x1024 .bf16) (w : Vec F S1x1024x5120 .bf16) (o : Vec F S16384x1 .f32) (a : FVec F S16384x5120 .f32) :
    put' (k0_pay19 o) (k0_pay18 codes w) a = pick codes w o a := by
  unfold k0_pay19 k0_pay18 put' pick
  rfl

theorem out_eq (x0 : Vec F S16384x1024 .bf16) (x1 : Vec F S16384x16 .f32) (x2 : Vec F S16x1024x5120 .bf16) (x3 : Vec F S16384x5120 .f32) :
    out0_4 x0 x1 x2 x3 = View.canon [⟨r0_33, fin (k0_pay4 (View.ld x0 r0_0)) (all (k0_pay5 (View.ld x0 r0_0)) x1 x2) (View.ld x3 r0_33)⟩] := by
  unfold out0_4 k0_pay20 all
  rw [first_turn, turn12, turn15, turn17, turn1, put_pick0]
  unfold k0_pay11 k0_pay16
  rw [put_pick, put_pick13, put_pick, put_pick18]

end

end Cert.ReferenceIdeal.Run
-- ==== Proof.RefScale.lean ====
/-
  The reference's body at an index: the product of the row's codes with the weights of the one group the row is a
  member of, by the row's scale and by the weight scale.
-/
module

public import proofs.«01_k».proof.Proof.Gen.ReferenceIdeal.Value
public import proofs.«01_k».proof.Proof.RowOps

@[expose] public section

set_option maxRecDepth 16384

noncomputable section

namespace Cert.ReferenceIdeal.Run

open Cert.ReferenceIdeal Cert.ReferenceIdeal.Gen Idealize.ShloMosaic Idealize.ShloMosaic.TcCoe Idealize.SL.Sem

section
variable {F : FTy → Type} [FloatOps F]

/-- The exponents of the rows' scales, from their largest magnitudes. -/
def expo (v4 : FVec F S16384x1 .f32) : FVec F S16384x1 .f32 :=
  select (ori (cmpf .oeq v4 (broadcast S16384x1 (Scalar.ofBits .f32 0x00000000#32 : F .f32))) (cmpf .oeq v4 (broadcast S16384x1 (Scalar.ofBits .f32 0x7F800000#32 : F .f32))))
    (broadcast S16384x1 (Scalar.ofBits .f32 0x00000000#32 : F .f32))
    (addf (floor (divf (log (mulf v4 (broadcast S16384x1 (Scalar.ofBits .f32 0x3B124925#32 : F .f32)))) (log (broadcast S16384x1 (Scalar.ofBits .f32 0x40000000#32 : F .f32)))))
      (broadcast S16384x1 (Scalar.ofBits .f32 0x3F800000#32 : F .f32)))

theorem pay3_eq (x : Vec F S16384x1024 .bf16) : k0_pay3 x = expo (shapeCast S16384x1 (multiReduction .maximumf [1] S16384 (absf (k0_pay2 x)) 0xFF800000#32
    reduces_S16384x1024_S16384 (.inl rfl) rfl) shapeCasts_S16384_S16384x1) := by
  unfold k0_pay3 expo
  rfl

theorem pay4_eq (x : Vec F S16384x1024 .bf16) : k0_pay4 x = exp2 (k0_pay3 x) := by
  unfold k0_pay4
  rfl

/-- The codes of the rows, from the exponents of their scales. -/
def codesV (x : Vec F S16384x1024 .bf16) (e : FVec F S16384x1 .f32) : FVec F S16384x1024 .bf16 :=
  extf .bf16 (truncf .fp8e4m3 (minimumf (broadcast S16384x1024 (Scalar.ofBits .f32 0x43E00000#32 : F .f32)) (maximumf (broadcast S16384x1024 (Scalar.ofBits .f32 0xC3E00000#32 : F .f32))
    (mulf (extf .f32 x bitsLt_bf16_f32) (broadcastTo S16384x1024 (exp2 (subf (broadcast S16384x1 (Scalar.ofBits .f32 0x00000000#32 : F .f32)) e)) broadcasts_S16384x1_S16384x1024))))
    bitsLt_fp8e4m3_f32) bitsLt_fp8e4m3_bf16

theorem pay5_eq (x : Vec F S16384x1024 .bf16) : k0_pay5 x = codesV x (k0_pay3 x) := by
  unfold k0_pay5 k0_pay2 codesV
  rfl

end

/-- The largest magnitude of a row. -/
def aOf (x : Vec Ideal S16384x1024 .bf16) (r : Fin 16384) : EReal := RowOps.rowMax (fun k : Fin 1024 => x (ValueIdx.ix2 r k))

theorem expo_at (v : FVec Ideal S16384x1 .f32) (p : S16384x1.Idx) : expo v p = Scales.rE (v p) := rfl

theorem exp2_at (e : FVec Ideal S16384x1 .f32) (p : S16384x1.Idx) : exp2 e p = Ideal.exp2 (e p) := rfl

theorem codesV_at (x : Vec Ideal S16384x1024 .bf16) (e : FVec Ideal S16384x1 .f32) (r : Fin 16384) (k : Fin 1024) :
    codesV x e (ValueIdx.ix2 r k) = min (Ideal.ofBits .f32 0x43E00000#32) (max (Ideal.ofBits .f32 0xC3E00000#32) (x (ValueIdx.ix2 r k)
      * Ideal.exp2 (Ideal.ofBits .f32 0x00000000#32 - e (ValueIdx.ix2 r (0 : Fin 1))))) := by
  have h := RowOps.col_bcast (exp2 (subf (broadcast S16384x1 (Scalar.ofBits .f32 0x00000000#32 : Ideal .f32)) e)) broadcasts_S16384x1_S16384x1024 r k
  have h' : broadcastTo S16384x1024 (exp2 (subf (broadcast S16384x1 (Scalar.ofBits .f32 0x00000000#32 : Ideal .f32)) e)) broadcasts_S16384x1_S16384x1024 (ValueIdx.ix2 r k)
      = Ideal.exp2 (Ideal.ofBits .f32 0x00000000#32 - e (ValueIdx.ix2 r (0 : Fin 1))) := h
  rw [← h']
  unfold codesV
  generalize broadcastTo S16384x1024 (exp2 (subf (broadcast S16384x1 (Scalar.ofBits .f32 0x00000000#32 : Ideal .f32)) e)) broadcasts_S16384x1_S16384x1024 = z
  rfl

theorem pay2_max (x : Vec Ideal S16384x1024 .bf16) (r : Fin 16384) : RowOps.rowMax (fun k : Fin 1024 => k0_pay2 x (ValueIdx.ix2 r k)) = aOf x r := by
  unfold k0_pay2 aOf
  rfl

theorem pay3_at (x : Vec Ideal S16384x1024 .bf16) (r : Fin 16384) : k0_pay3 x (ValueIdx.ix2 r (0 : Fin 1)) = Scales.rE (aOf x r) := by
  have e1 := RowOps.max_at (k0_pay2 x) reduces_S16384x1024_S16384 (.inl rfl) rfl r
  have e2 := (RowOps.add_col (multiReduction .maximumf [1] S16384 (absf (k0_pay2 x)) 0xFF800000#32 reduces_S16384x1024_S16384 (.inl rfl) rfl) shapeCasts_S16384_S16384x1 r).trans e1
  have e3 : RowOps.rowMax (fun k : Fin 1024 => k0_pay2 x (ValueIdx.ix2 r k)) = aOf x r := pay2_max x r
  rw [pay3_eq, expo_at, e2, e3]

theorem xs_at (x : Vec Ideal S16384x1024 .bf16) (r : Fin 16384) : k0_pay4 x (ValueIdx.ix2 r (0 : Fin 1)) = Scales.rSc (aOf x r) := by
  rw [pay4_eq, exp2_at, pay3_at, Scales.rSc]

theorem codes_at (x : Vec Ideal S16384x1024 .bf16) (r : Fin 16384) (k : Fin 1024) : k0_pay5 x (ValueIdx.ix2 r k)
    = min (Ideal.ofBits .f32 0x43E00000#32) (max (Ideal.ofBits .f32 0xC3E00000#32) (x (ValueIdx.ix2 r k) * Scales.rInv (aOf x r))) := by
  rw [pay5_eq, codesV_at, pay3_at, Scales.rInv]

end Cert.ReferenceIdeal.Run
-- ==== Proof.RefBody.lean ====
/-
  The reference's body at an index: the product of the row's codes with the weights of the one group the row is a
  member of, by the row's scale and by the weight scale.
-/
module

public import proofs.«01_k».proof.Proof.Gen.ReferenceIdeal.Value
public import proofs.«01_k».proof.Proof.RowOps
public import proofs.«01_k».proof.Proof.RefTurns
public import proofs.«01_k».proof.Proof.RefOut
public import proofs.«01_k».proof.Proof.RefScale

@[expose] public section

set_option maxRecDepth 16384

noncomputable section

namespace Cert.ReferenceIdeal.Run

open Cert.ReferenceIdeal Cert.ReferenceIdeal.Gen Idealize.ShloMosaic Idealize.ShloMosaic.TcCoe Idealize.SL.Sem

/-- THE REFERENCE'S BODY, at an index of a row that is the member of one group. -/
theorem out_at (x0 : Vec Ideal S16384x1024 .bf16) (x1 : Vec Ideal S16384x16 .f32) (x2 : Vec Ideal S16x1024x5120 .bf16) (x3 : Vec Ideal S16384x5120 .f32)
    (r : Fin 16384) (j : Fin 5120) (γ : Fin 16) (h : ∀ g, memb x1 r g = 1#1 ↔ g = γ) :
    out0_4 x0 x1 x2 x3 (ValueIdx.ix2 r j)
      = Scales.dot (fun k : Fin 1024 => x0 (ValueIdx.ix2 r k)) (fun k : Fin 1024 => x2 (ValueIdx.ix3 γ k j))
          (Scales.rInv (aOf x0 r)) (Scales.rSc (aOf x0 r)) * x3 (ValueIdx.ix2 r j) := by
  rw [out_eq, View.canon_unit_zero (by funext a; match a with | ⟨0, _⟩ => rfl | ⟨1, _⟩ => rfl),
    View.ld_unit_zero (by funext a; match a with | ⟨0, _⟩ => rfl | ⟨1, _⟩ => rfl),
    View.ld_unit_zero (by funext a; match a with | ⟨0, _⟩ => rfl | ⟨1, _⟩ => rfl), fin_at, all_at _ x1 x2 r j γ h, xs_at]
  unfold Scales.dot prod
  simp only [codes_at]

end Cert.ReferenceIdeal.Run
-- ==== Proof.RefHost.lean ====
/-
  The arrays the reference's body is called with, of the arguments: the weights unpacked, the rows' group members and
  the rows' weight scales.
-/
module

public import proofs.«01_k».proof.Proof.Gen.ReferenceIdeal.Frame
public import proofs.«01_k».proof.Proof.Tables
public import proofs.«01_k».proof.Proof.RowOps
public import Idealize.ShloMosaic.Lib.StackMember
public import Idealize.ShloMosaic.Lib.StableHlo.RunRead

@[expose] public section

set_option maxRecDepth 16384

noncomputable section

namespace Cert.ReferenceIdeal.Run

open Cert.ReferenceIdeal Cert.ReferenceIdeal.Gen Idealize.ShloMosaic Idealize.ShloMosaic.TcCoe Idealize.ShloMosaic.Tactic Idealize.SL.Sem
open scoped BigOperators

section
variable {F : FTy → Type} [FloatOps F]
variable (m : (ℓ : Loc nD τ sig) → Buf (Elt F) ℓ)

/-- The group sizes. -/
abbrev sizes (c : Dev nD) : IVec (Routing.shape1 16) 32 := m ((c : Thread nD τ).loc main_arg1)

/-- The row numbers, a column repeated over the groups. -/
def rows : IVec S16384x16 32 :=
  broadcastInDim S16384x16 ![0, 1] bcast_S16384x1_S16384x16_0_1 (broadcastInDim S16384x1 ![0] bcast_S16384_S16384x1_0 (iotaInDim S16384 32 0))
/-- A vector over the groups, repeated over the rows. -/
def over (v : IVec S16 32) : IVec S16384x16 32 :=
  broadcastInDim S16384x16 ![0, 1] bcast_S1x16_S16384x16_0_1 (broadcastInDim S1x16 ![1] bcast_S16_S1x16_1 v)
/-- Which rows are members of which group. -/
def hot (gs : IVec (Routing.shape1 16) 32) : FVec F S16384x16 .f32 :=
  uitofp .f32 (andi (cmpi .sge rows (over (Tables.starts gs))) (cmpi .slt rows (over (Tables.cum gs))))

theorem V_hot (c : Dev nD) : V m c main_v25 = hot (sizes m c) := by
  unfold V
  after_reads_simp
  simp only [StableHlo.TRef.ofBuf_toBuf, id]
  simp only [StableHlo.TRef.ofBuf, StableHlo.TRef.toBuf, cast_eq]
  simp only [hot, rows, over, Tables.starts, Tables.cum]

theorem V_s (c : Dev nD) : V m c main_v26
    = Host.dotGeneral dot_S16384x16_S16x5120_S16384x5120_1_0_0_1_n_n (some .fp32) (hot (sizes m c) : FVec F S16384x16 .f32) (m ((c : Thread nD τ).loc main_arg3)) := by
  unfold V
  after_reads_simp
  simp only [StableHlo.TRef.ofBuf_toBuf, id]
  simp only [StableHlo.TRef.ofBuf, StableHlo.TRef.toBuf, cast_eq]
  simp only [hot, rows, over, Tables.starts, Tables.cum]

/-- A nibble of each byte, sign-extended. -/
def nibs (w : IVec S16x1024x2560 8) (n : BitVec 32) : FVec F S16x1024x2560 .bf16 :=
  sitofp .bf16 (Host.shrsi (Host.shli (extui 32 w natLt_8_32) (broadcastInDim S16x1024x2560 ![] bcast_S_S16x1024x2560 (constantI S_ 32 n)))
    (broadcastInDim S16x1024x2560 ![] bcast_S_S16x1024x2560 (constantI S_ 32 28#32)))

theorem concat_congr {a a' b b' : S16x1024x2560.Idx → Elt F .bf16} (ha : a = a') (hb : b = b')
    (h : Shape.Concatenates [S16x1024x2560, S16x1024x2560] S16x1024x5120 2) :
    concatenate S16x1024x5120 2 [⟨S16x1024x2560, a⟩, ⟨S16x1024x2560, b⟩] h = concatenate S16x1024x5120 2 [⟨S16x1024x2560, a'⟩, ⟨S16x1024x2560, b'⟩] h := by subst ha hb; rfl

theorem V_w (c : Dev nD) : V m c main_v11
    = concatenate S16x1024x5120 2 [⟨S16x1024x2560, nibs (m ((c : Thread nD τ).loc main_arg2)) 28#32⟩, ⟨S16x1024x2560, nibs (m ((c : Thread nD τ).loc main_arg2)) 24#32⟩]
        concatenates_S16x1024x2560_S16x1024x2560_S16x1024x5120_d2 := by
  unfold V
  after_reads_simp
  refine concat_congr ?_ ?_ _
  · after_reads_simp
    rfl
  · after_reads_simp
    rfl

end

/-! ## At an index -/

theorem rows_at (r : Fin 16384) (g : Fin 16) : rows (ValueIdx.ix2 r g) = BitVec.ofNat 32 r.val := by
  unfold rows
  refine (broadcastInDim_apply _ _ _ _ (ValueIdx.ix2 r (0 : Fin 1)) fun a => ?_).trans ?_
  · match a with
    | ⟨0, _⟩ => rfl
    | ⟨1, _⟩ => rfl
  · refine (broadcastInDim_apply _ _ _ _ (ValueIdx.ix1 r) fun a => ?_).trans ?_
    · match a with
      | ⟨0, _⟩ => rfl
    · rfl

theorem over_at (v : IVec S16 32) (r : Fin 16384) (g : Fin 16) : over v (ValueIdx.ix2 r g) = v (ValueIdx.ix1 g) := by
  unfold over
  refine (broadcastInDim_apply _ _ _ _ (ValueIdx.ix2 (0 : Fin 1) g) fun a => ?_).trans ?_
  · match a with
    | ⟨0, _⟩ => rfl
    | ⟨1, _⟩ => rfl
  · refine broadcastInDim_apply _ _ _ _ (ValueIdx.ix1 g) fun a => ?_
    match a with
    | ⟨0, _⟩ => rfl

theorem uitofp_bit (b : Bool) : (((BitVec.ofBool b).toNat : ℝ) : EReal) = if b = true then 1 else 0 := by
  cases b <;> simp

theorem hot_at {gs : IVec (Routing.shape1 16) 32} {f : ℕ → ℕ} (h : Tables.Holds gs f) (hs : Tables.P f 16 ≤ 16384) (r : Fin 16384) (g : Fin 16) :
    (hot gs : FVec Ideal S16384x16 .f32) (ValueIdx.ix2 r g) = if Tables.P f g.val ≤ r.val ∧ r.val < Tables.P f (g.val + 1) then (1 : EReal) else 0 := by
  have hr := r.isLt
  have hg := g.isLt
  have p1 : Tables.P f g.val ≤ Tables.P f 16 := Tables.P_mono f (by omega)
  have p2 : Tables.P f (g.val + 1) ≤ Tables.P f 16 := Tables.P_mono f (by omega)
  have e : andi (cmpi .sge rows (over (Tables.starts gs))) (cmpi .slt rows (over (Tables.cum gs))) (ValueIdx.ix2 r g)
      = BitVec.ofBool (decide (Tables.P f g.val ≤ r.val) && decide (r.val < Tables.P f (g.val + 1))) := by
    show IntOp.andi (IntOp.cmpi .sge (rows _) (over _ _)) (IntOp.cmpi .slt (rows _) (over _ _)) = _
    rw [rows_at, over_at, over_at, Tables.starts_word h, Tables.cum_word h,
      WordCmp.cmpi_sge_ofNat (w := 32) (by omega) (by omega), WordCmp.cmpi_slt_ofNat (w := 32) (by omega) (by omega), WordCmp.andi_ofBool]
  refine (show (hot gs : FVec Ideal S16384x16 .f32) (ValueIdx.ix2 r g)
    = (((andi (cmpi .sge rows (over (Tables.starts gs))) (cmpi .slt rows (over (Tables.cum gs))) (ValueIdx.ix2 r g)).toNat : ℝ) : EReal) from rfl).trans ?_
  rw [e, uitofp_bit]
  simp only [Bool.and_eq_true, decide_eq_true_eq]

/-- The weight scale of a row: its group's. -/
theorem s_at {gs : IVec (Routing.shape1 16) 32} {f : ℕ → ℕ} (h : Tables.Holds gs f) (hs : Tables.P f 16 ≤ 16384) (S : FVec Ideal S16x5120 .f32)
    (r : Fin 16384) (j : Fin 5120) (γ : Fin 16) (h1 : Tables.P f γ.val ≤ r.val) (h2 : r.val < Tables.P f (γ.val + 1)) :
    Host.dotGeneral dot_S16384x16_S16x5120_S16384x5120_1_0_0_1_n_n (some .fp32) (hot gs : FVec Ideal S16384x16 .f32) S (ValueIdx.ix2 r j) = S (ValueIdx.ix2 γ j) := by
  refine (StackMember.dotGeneral_plain_apply (some .fp32) (hot gs : FVec Ideal S16384x16 .f32) S r j).trans ?_
  rw [Finset.sum_eq_single γ]
  · rw [hot_at h hs, if_pos ⟨h1, h2⟩, one_mul]
  · intro g _ hg
    rw [hot_at h hs, if_neg (fun e => hg (Fin.ext (Tables.group_unique e.1 e.2 h1 h2))), zero_mul]
  · intro hn
    exact absurd (Finset.mem_univ γ) hn

theorem shift_word (b : BitVec 32) (n : BitVec 32) (hn : n.toNat < 32) :
    IntOp.shrsi .host (IntOp.shli .host b n) 28#32 = (b <<< n).sshiftRight' 28#32 := by
  unfold IntOp.shrsi IntOp.shli
  rw [if_pos (by decide), if_pos hn]

theorem nibs_at (w : IVec S16x1024x2560 8) (n : BitVec 32) (hn : n.toNat < 32) (i : S16x1024x2560.Idx) :
    (nibs w n : FVec Ideal S16x1024x2560 .bf16) i = (((((w i).setWidth 32 <<< n).sshiftRight' 28#32).toInt : ℝ) : EReal) := by
  rw [← shift_word _ n hn]
  unfold nibs
  rw [WordCmp.broadcastInDim_constantI, WordCmp.broadcastInDim_constantI]
  generalize 28#32 = k
  rfl

theorem nibs_low (w : IVec S16x1024x2560 8) (i : S16x1024x2560.Idx) : (nibs w 28#32 : FVec Ideal S16x1024x2560 .bf16) i = ((RowOps.nibI 0 (w i) : ℝ) : EReal) := by
  rw [nibs_at w 28#32 (by decide) i]
  unfold RowOps.nibI
  rw [if_pos rfl]
theorem nibs_high (w : IVec S16x1024x2560 8) (i : S16x1024x2560.Idx) : (nibs w 24#32 : FVec Ideal S16x1024x2560 .bf16) i = ((RowOps.nibI 1 (w i) : ℝ) : EReal) := by
  rw [nibs_at w 24#32 (by decide) i]
  unfold RowOps.nibI
  rw [if_neg (by decide)]

theorem w_at (w : IVec S16x1024x2560 8) (g : Fin 16) (k : Fin 1024) (j : Fin 5120) (hj : j.val / 2560 < 2) :
    concatenate S16x1024x5120 2 [⟨S16x1024x2560, (nibs w 28#32 : FVec Ideal S16x1024x2560 .bf16)⟩, ⟨S16x1024x2560, (nibs w 24#32 : FVec Ideal S16x1024x2560 .bf16)⟩]
        concatenates_S16x1024x2560_S16x1024x2560_S16x1024x5120_d2 (ValueIdx.ix3 g k j)
      = ((RowOps.nibI ⟨j.val / 2560, hj⟩ (w (ValueIdx.ix3 g k (⟨j.val % 2560, Nat.mod_lt _ (by decide)⟩ : Fin 2560))) : ℝ) : EReal) := by
  have hl := j.isLt
  by_cases h : j.val < 2560
  · have e : (⟨j.val / 2560, hj⟩ : Fin 2) = 0 := Fin.ext (show j.val / 2560 = 0 by omega)
    rw [e, ← nibs_low]
    refine concatenate_pair_apply_left (t := S16x1024x5120) (s₁ := S16x1024x2560) (s₂ := S16x1024x2560) (2 : Fin 3) (nibs w 28#32 : FVec Ideal S16x1024x2560 .bf16) (nibs w 24#32 : FVec Ideal S16x1024x2560 .bf16)
      concatenates_S16x1024x2560_S16x1024x2560_S16x1024x5120_d2 (ValueIdx.ix3 g k j) rfl (ValueIdx.ix3 g k (⟨j.val % 2560, Nat.mod_lt _ (by decide)⟩ : Fin 2560)) fun b => ?_
    match b with
    | ⟨0, _⟩ => rfl
    | ⟨1, _⟩ => rfl
    | ⟨2, _⟩ => exact (show j.val % 2560 = j.val by omega)
  · have e : (⟨j.val / 2560, hj⟩ : Fin 2) = 1 := Fin.ext (show j.val / 2560 = 1 by omega)
    rw [e, ← nibs_high]
    refine concatenate_pair_apply_right (t := S16x1024x5120) (s₁ := S16x1024x2560) (s₂ := S16x1024x2560) (2 : Fin 3) (nibs w 28#32 : FVec Ideal S16x1024x2560 .bf16) (nibs w 24#32 : FVec Ideal S16x1024x2560 .bf16)
      concatenates_S16x1024x2560_S16x1024x2560_S16x1024x5120_d2 (ValueIdx.ix3 g k j) rfl rfl (ValueIdx.ix3 g k (⟨j.val % 2560, Nat.mod_lt _ (by decide)⟩ : Fin 2560)) (fun b hb => ?_) ?_
    · match b with
      | ⟨0, _⟩ => rfl
      | ⟨1, _⟩ => rfl
      | ⟨2, _⟩ => exact absurd rfl hb
    · exact (show j.val % 2560 + 2560 = j.val by omega)

end Cert.ReferenceIdeal.Run
-- ==== Proof.RefRun.lean ====
/-
  The reference's result, of the arguments: at every index the specified value, by the reference's scales.
-/
module

public import proofs.«01_k».proof.Proof.RefBody
public import proofs.«01_k».proof.Proof.RefHost
public import proofs.«01_k».proof.Proof.Spec

@[expose] public section

set_option maxRecDepth 16384

noncomputable section

namespace Cert.ReferenceIdeal.Run

open Cert.ReferenceIdeal Cert.ReferenceIdeal.Gen Idealize.ShloMosaic Idealize.ShloMosaic.TcCoe Idealize.SL.Sem

section
variable {F : FTy → Type} [FloatOps F]
variable (m : (ℓ : Loc nD τ sig) → Buf (Elt F) ℓ)

theorem block0 (A : S16384x1024.Idx → Elt F .bf16) (t : Fin cfg0.N) : ((cfg0.win 0).blk t).view.read (Elt F) A = A := by
  rw [fin_N0 t]
  refine funext fun q => congrArg A (funext fun a => ?_)
  match a with
  | ⟨0, _⟩ => exact Fin.ext (show 0 * 16384 + 1 * (q 0).val = (q 0).val by omega)
  | ⟨1, _⟩ => exact Fin.ext (show 0 * 1024 + 1 * (q 1).val = (q 1).val by omega)
theorem block1 (A : S16384x16.Idx → Elt F .f32) (t : Fin cfg0.N) : ((cfg0.win 1).blk t).view.read (Elt F) A = A := by
  rw [fin_N0 t]
  refine funext fun q => congrArg A (funext fun a => ?_)
  match a with
  | ⟨0, _⟩ => exact Fin.ext (show 0 * 16384 + 1 * (q 0).val = (q 0).val by omega)
  | ⟨1, _⟩ => exact Fin.ext (show 0 * 16 + 1 * (q 1).val = (q 1).val by omega)
theorem block2 (A : S16x1024x5120.Idx → Elt F .bf16) (t : Fin cfg0.N) : ((cfg0.win 2).blk t).view.read (Elt F) A = A := by
  rw [fin_N0 t]
  refine funext fun q => congrArg A (funext fun a => ?_)
  match a with
  | ⟨0, _⟩ => exact Fin.ext (show 0 * 16 + 1 * (q 0).val = (q 0).val by omega)
  | ⟨1, _⟩ => exact Fin.ext (show 0 * 1024 + 1 * (q 1).val = (q 1).val by omega)
  | ⟨2, _⟩ => exact Fin.ext (show 0 * 5120 + 1 * (q 2).val = (q 2).val by omega)
theorem block3 (A : S16384x5120.Idx → Elt F .f32) (t : Fin cfg0.N) : ((cfg0.win 3).blk t).view.read (Elt F) A = A := by
  rw [fin_N0 t]
  refine funext fun q => congrArg A (funext fun a => ?_)
  match a with
  | ⟨0, _⟩ => exact Fin.ext (show 0 * 16384 + 1 * (q 0).val = (q 0).val by omega)
  | ⟨1, _⟩ => exact Fin.ext (show 0 * 5120 + 1 * (q 1).val = (q 1).val by omega)
theorem block4 (A : S16384x5120.Idx → Elt F .bf16) (t : Fin cfg0.N) : ((cfg0.win 4).blk t).view.read (Elt F) A = A := by
  rw [fin_N0 t]
  refine funext fun q => congrArg A (funext fun a => ?_)
  match a with
  | ⟨0, _⟩ => exact Fin.ext (show 0 * 16384 + 1 * (q 0).val = (q 0).val by omega)
  | ⟨1, _⟩ => exact Fin.ext (show 0 * 5120 + 1 * (q 1).val = (q 1).val by omega)

theorem flush4 : ∀ t : Fin cfg0.N, (cfg0.win 4).flush t = true :=
  (by decide +kernel : ∀ t : Fin grid0.N, win0_4.flush t = true)

/-- The reference's result is its body's, of the arrays it is called with. -/
theorem result_eq (c : Dev nD) : (dats m 0 c).arrAt 4 cfg0.N
    = out0_4 (V m c main_arg0) (V m c main_v25) (V m c main_v11) (V m c main_v26) := by
  have h := Value.blocks4 m c t0_0 (flush4 t0_0)
  rw [Value.flushed4] at h
  have e0 : iblk m c 0 t0_0 = V m c main_arg0 := block0 (V m c main_arg0) t0_0
  have e1 : iblk m c 1 t0_0 = V m c main_v25 := block1 (V m c main_v25) t0_0
  have e2 : iblk m c 2 t0_0 = V m c main_v11 := block2 (V m c main_v11) t0_0
  have e3 : iblk m c 3 t0_0 = V m c main_v26 := block3 (V m c main_v26) t0_0
  rw [e0, e1, e2, e3] at h
  exact ((block4 ((dats m 0 c).arrAt 4 cfg0.N) t0_0).symm.trans h)

end

section
variable (m : (ℓ : Loc nD τ sig) → Buf (Elt Ideal) ℓ)

/-- A row is a member of its group and of no other. -/
theorem memb_hot {gs : IVec (Routing.shape1 16) 32} {f : ℕ → ℕ} (h : Tables.Holds gs f) (hs : Tables.P f 16 ≤ 16384) (r : Fin 16384) (γ : Fin 16)
    (h1 : Tables.P f γ.val ≤ r.val) (h2 : r.val < Tables.P f (γ.val + 1)) (g : Fin 16) : memb (hot gs : FVec Ideal S16384x16 .f32) r g = 1#1 ↔ g = γ := by
  unfold memb
  rw [hot_at h hs, Ideal.ofBits_zero_f32]
  have hc : ∀ a : EReal, Ideal.cmp .ogt a 0 = 1#1 ↔ 0 < a := fun a => by
    unfold Ideal.cmp
    exact WordCmp.ofBool_decide_eq_one_iff _
  rw [hc]
  constructor
  · intro hp
    by_contra hn
    rw [if_neg (fun e => hn (Fin.ext (Tables.group_unique e.1 e.2 h1 h2)))] at hp
    exact lt_irrefl _ hp
  · rintro rfl
    rw [if_pos ⟨h1, h2⟩]
    exact zero_lt_one

/-- THE REFERENCE'S RESULT, at an index. -/
theorem result_spec {f : ℕ → ℕ} (c : Dev nD) (h : Tables.Holds (sizes m c) f) (hs : Tables.P f 16 ≤ 16384) (r : Fin 16384) (j : Fin 5120) (γ : Fin 16)
    (h1 : Tables.P f γ.val ≤ r.val) (h2 : r.val < Tables.P f (γ.val + 1)) :
    (dats m 0 c).arrAt 4 cfg0.N (ValueIdx.ix2 r j)
      = Spec.value (m ((c : Thread nD τ).loc main_arg0)) (m ((c : Thread nD τ).loc main_arg2)) (m ((c : Thread nD τ).loc main_arg3)) Scales.rInv Scales.rSc r j γ := by
  have hj := j.isLt
  rw [result_eq, V_main_arg0, V_hot, V_w, V_s, out_at _ _ _ _ r j γ (memb_hot h hs r γ h1 h2), s_at h hs _ r j γ h1 h2]
  unfold Spec.value aOf
  simp only [w_at _ γ _ j (show j.val / 2560 < 2 by omega)]

end

end Cert.ReferenceIdeal.Run
-- ==== Proof.Full.lean ====
/-
  What the precondition `rows_full` says: the group sizes are naturals whose sum is the number of rows, and every
  input value is infinite or within the format's range.
-/
module

public import proofs.«01_k».proof.Pre_rows_full
public import proofs.«01_k».proof.Proof.Sizes
public import proofs.«01_k».proof.Proof.Scales
public import Idealize.ShloMosaic.Lib.ReduceAll

@[expose] public section

noncomputable section

namespace Cert.Sizes

open Idealize.ShloMosaic Idealize.ShloMosaic.ValueIdx Idealize.ShloMosaic.Routing Idealize.ShloMosaic.WordCmp

theorem full_parts [Pre_rows_full.Facts] (x : FVec Ideal ⟨2, ![16384, 1024]⟩ .bf16) (gs : IVec (shape1 16) 32) (w : IVec ⟨3, ![16, 1024, 2560]⟩ 8) (s : FVec Ideal ⟨2, ![16, 5120]⟩ .f32)
    (h : Pre_rows_full.fn (F := Ideal) x gs w s = fun _ => 1#1) (i : Fin 16) :
    (∀ p, IntOp.ori (Ideal.cmp .ole (max (x p) (-(x p))) (Ideal.ofBits .f32 0x7F7F0000#32)) (Ideal.cmp .oeq (max (x p) (-(x p))) (Ideal.ofBits .f32 0x7F800000#32)) = 1#1)
    ∧ (gs (ix1 i)).toNat ≤ 16384 ∧ IntOp.cmpi .eq (BitVec.ofNat 32 (Tables.P (nat gs) 16)) 16384#32 = 1#1 := by
  have hi := congrFun h (ix1 i)
  unfold Pre_rows_full.fn Pre_rows_full.fn_part1 at hi
  dsimp only at hi
  rw [andi_at, andi_at, andi_at, bc0, bc0, cmpi_at, cmpi_at, bc0, bc0, constantI_at, constantI_at, cmpi_at, sum_word, constantI_at] at hi
  obtain ⟨h1, h2⟩ := and_one hi
  obtain ⟨h3, h4⟩ := and_one h1
  obtain ⟨h5, h6⟩ := and_one h3
  exact ⟨fun p => Host.reduce_andi_all _ _ _ _ _ h5 p, le_of_words _ h6 h4, h2⟩

/-- Under `rows_full` the group sizes sum to the number of rows. -/
theorem of_full [Pre_rows_full.Facts] (x) (gs : IVec (shape1 16) 32) (w) (s)
    (h : Pre_rows_full.fn (F := Ideal) x gs w s = fun _ => 1#1) : Tables.P (nat gs) 16 = 16384 := by
  have h0 := full_parts x gs w s h
  have hb : Tables.P (nat gs) 16 ≤ 16 * 16384 := P_le _ _ _ fun i hi => by
    unfold nat; rw [dif_pos hi]; exact (h0 ⟨i, hi⟩).2.1
  have h2 := (h0 0).2.2
  rw [cmpi_eq_eq, ofBool_decide_eq_one_iff] at h2
  have h3 := congrArg BitVec.toNat h2
  rw [BitVec.toNat_ofNat, Nat.mod_eq_of_lt (by omega)] at h3
  exact h3

/-- Under `rows_full` every input value is infinite or within the format's range. -/
theorem range_of_full [Pre_rows_full.Facts] (x : FVec Ideal ⟨2, ![16384, 1024]⟩ .bf16) (gs : IVec (shape1 16) 32) (w) (s)
    (h : Pre_rows_full.fn (F := Ideal) x gs w s = fun _ => 1#1) (p) :
    max (x p) (-(x p)) ≤ (Scales.big : EReal) ∨ max (x p) (-(x p)) = (⊤ : EReal) := by
  have h0 := (full_parts x gs w s h 0).1 p
  rw [Scales.v_big, Scales.v_top] at h0
  have or_one : ∀ a b : BitVec 1, IntOp.ori a b = 1#1 → a = 1#1 ∨ b = 1#1 := by decide
  refine (or_one _ _ h0).imp (fun e => ?_) fun e => ?_
  · unfold Ideal.cmp at e
    exact (ofBool_decide_eq_one_iff _).1 e
  · unfold Ideal.cmp at e
    exact (ofBool_decide_eq_one_iff _).1 e

end Cert.Sizes
-- ==== Proof.lean ====
module

public import proofs.«01_k».proof.Proof.Gen.ReferenceIdeal.Value
public import proofs.«01_k».proof.Defs
public import proofs.«01_k».proof.Proof.Sizes
public import proofs.«01_k».proof.Proof.KernelTables
public import proofs.«01_k».proof.Proof.KernelBody
public import proofs.«01_k».proof.Proof.KernelIdealTables
public import proofs.«01_k».proof.Proof.KernelIdealBody
public import proofs.«01_k».proof.Proof.KernelRun
public import proofs.«01_k».proof.Proof.RefRun
public import proofs.«01_k».proof.Proof.Full

@[expose] public section

noncomputable section

namespace Cert.Proof

open Idealize.ShloMosaic Idealize.SL.Sem

instance fit_facts : Cert.Pre_rows_fit.Facts where
  bcast_S_S16 := by decide
  reducesTo_S16_S_d0 := by decide
  h_S_ := by decide

/-- The kernel as printed runs, leaves its arguments as they were and ends with every semaphore at zero. -/
theorem kernel_frame : Cert.quiescent_Kernel (hKernel := Cert.Kernel.Gen.facts) (hPre_rows_fit := fit_facts) :=
  fun m g hp => Cert.Kernel.Run.frame_of_ok m g
    (Cert.Kernel.Run.ok_of_fits (Sizes.holds (Cert.Kernel.Run.sizes m 0)) (Sizes.of_fit _ _ _ _ (hp 0)))

/-- The idealized kernel likewise. -/
theorem kernelIdeal_frame : Cert.quiescent_KernelIdeal (hKernelIdeal := Cert.KernelIdeal.Gen.facts) (hPre_rows_fit := fit_facts) :=
  fun m g hp => Cert.KernelIdeal.Run.frame_of_ok m g
    (Cert.KernelIdeal.Run.ok_of_fits (Sizes.holds (Cert.KernelIdeal.Run.sizes m 0)) (Sizes.of_fit _ _ _ _ (hp 0)))

instance full_facts : Cert.Pre_rows_full.Facts where
  bitsLt_bf16_f32 := by decide
  bcast_S_S16384x1024 := by decide
  reducesTo_S16384x1024_S_d0_1 := by decide
  h_S_ := by decide
  bcast_S_S16 := by decide
  reducesTo_S16_S_d0 := by decide

/-- The idealized kernel's frame where the groups cover every row. -/
theorem kernelIdeal_frame_full : Cert.quiescent_KernelIdeal_pre_rows_full (hKernelIdeal := Cert.KernelIdeal.Gen.facts) (hPre_rows_full := full_facts) :=
  fun m g hp => Cert.KernelIdeal.Run.frame_of_ok m g
    (Cert.KernelIdeal.Run.ok_of_fits (Sizes.holds (Cert.KernelIdeal.Run.sizes m 0)) (Sizes.of_full _ _ _ _ (hp 0)).le)

/-- Every row has a group. -/
theorem exists_groups (f : ℕ → ℕ) (hf : Tables.P f 16 = 16384) :
    ∃ γ : ℕ → Fin 16, ∀ r, r < 16384 → Tables.P f (γ r).val ≤ r ∧ r < Tables.P f ((γ r).val + 1) := by
  have h : ∀ r : ℕ, ∃ g : Fin 16, r < 16384 → Tables.P f g.val ≤ r ∧ r < Tables.P f (g.val + 1) := fun r => by
    by_cases hr : r < 16384
    · obtain ⟨g, hg, h⟩ := Tables.exists_group f 16 r (by omega)
      exact ⟨⟨g, hg⟩, fun _ => h⟩
    · exact ⟨0, fun h => absurd h hr⟩
  exact ⟨fun r => (h r).choose, fun r => (h r).choose_spec⟩

/-- The kernel's result is the reference's. -/
theorem value : Cert.algebraic_KernelIdeal_ReferenceIdeal_pre_rows_full (hKernelIdeal := Cert.KernelIdeal.Gen.facts)
    (hReferenceIdeal := Cert.ReferenceIdeal.Gen.facts) (hPre_rows_full := full_facts) := by
  intro m g m' g' hp hag
  have h := Sizes.holds (Cert.KernelIdeal.Run.sizes m 0)
  have hf := Sizes.of_full _ _ _ _ (hp 0)
  obtain ⟨γ, hγ⟩ := exists_groups _ hf
  refine ⟨fun c => Cert.KernelIdeal.Run.outG m c γ, Cert.KernelIdeal.Run.run_value_args m g h hf γ hγ, ?_⟩
  refine (θ_run Cert.ReferenceIdeal.defs _ _).mono (fun r hr c => ⟨(hr c).1.trans ?_, (hr c).2⟩) (Cert.ReferenceIdeal.Value.run_blocks m' g')
  obtain ⟨e0, e1, e2, e3⟩ := hag c
  have hc : c = 0 := Subsingleton.elim _ _
  have h' : Tables.Holds (Cert.ReferenceIdeal.Run.sizes m' c) (Sizes.nat (Cert.KernelIdeal.Run.sizes m 0)) := by
    have e : Cert.ReferenceIdeal.Run.sizes m' c = Cert.KernelIdeal.Run.sizes m 0 := by subst hc; exact e1
    rw [e]; exact h
  refine funext fun q => ?_
  obtain ⟨a, b, rfl⟩ : ∃ (a : Fin 16384) (b : Fin 5120), q = ValueIdx.ix2 a b := ⟨q 0, q 1, funext fun x => by
    match x with
    | ⟨0, _⟩ => rfl
    | ⟨1, _⟩ => rfl⟩
  obtain ⟨h1, h2⟩ := hγ a.val a.isLt
  refine (Cert.ReferenceIdeal.Run.result_spec m' c h' hf.le a b (γ a.val) h1 h2).trans ?_
  refine Eq.trans ?_ (Cert.KernelIdeal.Run.outG_spec m c γ a b).symm
  refine Eq.trans ?_ (Spec.value_eq _ _ _ (Sizes.range_of_full _ _ _ _ (hp c)) a b (γ a.val)).symm
  rw [e0, e2, e3]

theorem claim : Cert.Claim :=
  ⟨Cert.Kernel.Gen.facts, Cert.KernelIdeal.Gen.facts, Cert.ReferenceIdeal.Gen.facts, fit_facts, full_facts,
    kernel_frame, kernelIdeal_frame, kernelIdeal_frame_full, fun m g _ => Cert.ReferenceIdeal.Gen.frame m g,
    fun m g _ => Cert.ReferenceIdeal.Gen.frame m g, trivial, value⟩

end Cert.Proof

end
